-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x50x128 : Shape := ⟨3, ![128, 50, 128]⟩
abbrev S128x50x2 : Shape := ⟨3, ![128, 50, 2]⟩
abbrev S128x50 : Shape := ⟨2, ![128, 50]⟩
abbrev S256 : Shape := ⟨1, ![256]⟩
abbrev S128x128 : Shape := ⟨2, ![128, 128]⟩
abbrev S128 : Shape := ⟨1, ![128]⟩
abbrev S128x256 : Shape := ⟨2, ![128, 256]⟩
abbrev S_ : Shape := ⟨0, ![]⟩
abbrev S1 : Shape := ⟨1, ![1]⟩
abbrev S2 : Shape := ⟨1, ![2]⟩
abbrev S50 : Shape := ⟨1, ![50]⟩
abbrev S50x1 : Shape := ⟨2, ![50, 1]⟩
abbrev S50x2 : Shape := ⟨2, ![50, 2]⟩
abbrev S1x1 : Shape := ⟨2, ![1, 1]⟩
abbrev S1x128x50 : Shape := ⟨3, ![1, 128, 50]⟩
abbrev S50x1x1 : Shape := ⟨3, ![50, 1, 1]⟩
abbrev S50x128x50 : Shape := ⟨3, ![50, 128, 50]⟩
abbrev S1x1x1 : Shape := ⟨3, ![1, 1, 1]⟩
abbrev S50x128x128 : Shape := ⟨3, ![50, 128, 128]⟩
abbrev S128x50x1 : Shape := ⟨3, ![128, 50, 1]⟩
abbrev S1x256 : Shape := ⟨2, ![1, 256]⟩
abbrev S1x128 : Shape := ⟨2, ![1, 128]⟩
abbrev S256x128 : Shape := ⟨2, ![256, 128]⟩
abbrev S128x1 : Shape := ⟨2, ![128, 1]⟩
abbrev S128x2 : Shape := ⟨2, ![128, 2]⟩
abbrev S1x128x128 : Shape := ⟨3, ![1, 128, 128]⟩
abbrev S6400x128 : Shape := ⟨2, ![6400, 128]⟩
abbrev S1x1x128 : Shape := ⟨3, ![1, 1, 128]⟩
abbrev S6400x50 : Shape := ⟨2, ![6400, 50]⟩

abbrev nBuf : Space → Nat
  | .hbm => 562
  | .vmem => 23
  | .smem => 0
  | _ => 0

abbrev hbmTy0_0 (i : Nat) : BufTy := match i % 128 with
  | 0 => ⟨S128x50x128, .f32⟩
  | 1 => ⟨S128x50x2, .f32⟩
  | 2 => ⟨S128x50, .i1⟩
  | 3 => ⟨S256, .f32⟩
  | 4 => ⟨S128x128, .f32⟩
  | 5 => ⟨S128, .f32⟩
  | 6 => ⟨S128x256, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S_, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S1, .i32⟩
  | 22 => ⟨S2, .i32⟩
  | 23 => ⟨S50, .i32⟩
  | 24 => ⟨S50, .i32⟩
  | 25 => ⟨S_, .i32⟩
  | 26 => ⟨S50, .i32⟩
  | 27 => ⟨S50, .i32⟩
  | 28 => ⟨S50x1, .i32⟩
  | 29 => ⟨S_, .i32⟩
  | 30 => ⟨S50, .i32⟩
  | 31 => ⟨S50, .i32⟩
  | 32 => ⟨S50x1, .i32⟩
  | 33 => ⟨S50x2, .i32⟩
  | 34 => ⟨S1, .i32⟩
  | 35 => ⟨S_, .i32⟩
  | 36 => ⟨S1, .i32⟩
  | 37 => ⟨S_, .i32⟩
  | 38 => ⟨S50x1, .i32⟩
  | 39 => ⟨S50x1, .i32⟩
  | 40 => ⟨S_, .i32⟩
  | 41 => ⟨S_, .i32⟩
  | 42 => ⟨S_, .i32⟩
  | 43 => ⟨S50x1, .i32⟩
  | 44 => ⟨S50x1, .i32⟩
  | 45 => ⟨S50x1, .i32⟩
  | 46 => ⟨S50x1, .i32⟩
  | 47 => ⟨S50x1, .i32⟩
  | 48 => ⟨S_, .i32⟩
  | 49 => ⟨S50x1, .i32⟩
  | 50 => ⟨S50x1, .i32⟩
  | 51 => ⟨S_, .i32⟩
  | 52 => ⟨S50x1, .i32⟩
  | 53 => ⟨S50x1, .i32⟩
  | 54 => ⟨S50x1, .i32⟩
  | 55 => ⟨S50x1, .i32⟩
  | 56 => ⟨S50x1, .i32⟩
  | 57 => ⟨S_, .i32⟩
  | 58 => ⟨S50x1, .i32⟩
  | 59 => ⟨S50x1, .i32⟩
  | 60 => ⟨S_, .i32⟩
  | 61 => ⟨S50x1, .i32⟩
  | 62 => ⟨S50x1, .i32⟩
  | 63 => ⟨S50x1, .i32⟩
  | 64 => ⟨S50x1, .i32⟩
  | 65 => ⟨S50x1, .i32⟩
  | 66 => ⟨S_, .i32⟩
  | 67 => ⟨S50x1, .i32⟩
  | 68 => ⟨S50x1, .i32⟩
  | 69 => ⟨S_, .i32⟩
  | 70 => ⟨S50x1, .i32⟩
  | 71 => ⟨S50x1, .i32⟩
  | 72 => ⟨S50x1, .i32⟩
  | 73 => ⟨S50x1, .i32⟩
  | 74 => ⟨S50x1, .i32⟩
  | 75 => ⟨S_, .i32⟩
  | 76 => ⟨S50x1, .i32⟩
  | 77 => ⟨S50x1, .i32⟩
  | 78 => ⟨S_, .i32⟩
  | 79 => ⟨S50x1, .i32⟩
  | 80 => ⟨S50x1, .i32⟩
  | 81 => ⟨S50x1, .i32⟩
  | 82 => ⟨S50x1, .i32⟩
  | 83 => ⟨S50x1, .i32⟩
  | 84 => ⟨S50x1, .i32⟩
  | 85 => ⟨S50x1, .i32⟩
  | 86 => ⟨S50x1, .i32⟩
  | 87 => ⟨S_, .i32⟩
  | 88 => ⟨S50x1, .i32⟩
  | 89 => ⟨S50x1, .i32⟩
  | 90 => ⟨S50x1, .i32⟩
  | 91 => ⟨S_, .i32⟩
  | 92 => ⟨S50x1, .i32⟩
  | 93 => ⟨S50x1, .i32⟩
  | 94 => ⟨S_, .i32⟩
  | 95 => ⟨S50x1, .i32⟩
  | 96 => ⟨S50x1, .i32⟩
  | 97 => ⟨S50x1, .i32⟩
  | 98 => ⟨S50x1, .i32⟩
  | 99 => ⟨S50x1, .i32⟩
  | 100 => ⟨S_, .i32⟩
  | 101 => ⟨S50x1, .i32⟩
  | 102 => ⟨S50x1, .i32⟩
  | 103 => ⟨S_, .i32⟩
  | 104 => ⟨S50x1, .i32⟩
  | 105 => ⟨S50x1, .i32⟩
  | 106 => ⟨S50x1, .i32⟩
  | 107 => ⟨S50x1, .i32⟩
  | 108 => ⟨S50x1, .i32⟩
  | 109 => ⟨S_, .i32⟩
  | 110 => ⟨S50x1, .i32⟩
  | 111 => ⟨S50x1, .i32⟩
  | 112 => ⟨S_, .i32⟩
  | 113 => ⟨S50x1, .i32⟩
  | 114 => ⟨S50x1, .i32⟩
  | 115 => ⟨S50x1, .i32⟩
  | 116 => ⟨S50x1, .i32⟩
  | 117 => ⟨S50x1, .i32⟩
  | 118 => ⟨S_, .i32⟩
  | 119 => ⟨S50x1, .i32⟩
  | 120 => ⟨S50x1, .i32⟩
  | 121 => ⟨S_, .i32⟩
  | 122 => ⟨S50x1, .i32⟩
  | 123 => ⟨S50x1, .i32⟩
  | 124 => ⟨S50x1, .i32⟩
  | 125 => ⟨S50x1, .i32⟩
  | 126 => ⟨S50x1, .i32⟩
  | 127 => ⟨S50x1, .i32⟩
  | _ => ⟨S128x50x128, .f32⟩

abbrev hbmTy0_1 (i : Nat) : BufTy := match i % 128 with
  | 0 => ⟨S50x1, .i32⟩
  | 1 => ⟨S50x1, .i32⟩
  | 2 => ⟨S_, .i32⟩
  | 3 => ⟨S50x1, .i32⟩
  | 4 => ⟨S50x1, .i32⟩
  | 5 => ⟨S50x1, .i32⟩
  | 6 => ⟨S_, .i32⟩
  | 7 => ⟨S50x1, .i32⟩
  | 8 => ⟨S50x1, .i32⟩
  | 9 => ⟨S_, .i32⟩
  | 10 => ⟨S50x1, .i32⟩
  | 11 => ⟨S50x1, .i32⟩
  | 12 => ⟨S50x1, .i32⟩
  | 13 => ⟨S50x1, .i32⟩
  | 14 => ⟨S50x1, .i32⟩
  | 15 => ⟨S_, .i32⟩
  | 16 => ⟨S50x1, .i32⟩
  | 17 => ⟨S50x1, .i32⟩
  | 18 => ⟨S_, .i32⟩
  | 19 => ⟨S50x1, .i32⟩
  | 20 => ⟨S50x1, .i32⟩
  | 21 => ⟨S50x1, .i32⟩
  | 22 => ⟨S50x1, .i32⟩
  | 23 => ⟨S50x1, .i32⟩
  | 24 => ⟨S_, .i32⟩
  | 25 => ⟨S50x1, .i32⟩
  | 26 => ⟨S50x1, .i32⟩
  | 27 => ⟨S_, .i32⟩
  | 28 => ⟨S50x1, .i32⟩
  | 29 => ⟨S50x1, .i32⟩
  | 30 => ⟨S50x1, .i32⟩
  | 31 => ⟨S50x1, .i32⟩
  | 32 => ⟨S50x1, .i32⟩
  | 33 => ⟨S_, .i32⟩
  | 34 => ⟨S50x1, .i32⟩
  | 35 => ⟨S50x1, .i32⟩
  | 36 => ⟨S_, .i32⟩
  | 37 => ⟨S50x1, .i32⟩
  | 38 => ⟨S50x1, .i32⟩
  | 39 => ⟨S50x1, .i32⟩
  | 40 => ⟨S50x1, .i32⟩
  | 41 => ⟨S50x1, .i32⟩
  | 42 => ⟨S50x1, .i32⟩
  | 43 => ⟨S50x1, .i32⟩
  | 44 => ⟨S50x1, .i32⟩
  | 45 => ⟨S_, .i32⟩
  | 46 => ⟨S50x1, .i32⟩
  | 47 => ⟨S50x1, .i32⟩
  | 48 => ⟨S50x1, .i32⟩
  | 49 => ⟨S_, .i32⟩
  | 50 => ⟨S50x1, .i32⟩
  | 51 => ⟨S50x1, .i32⟩
  | 52 => ⟨S_, .i32⟩
  | 53 => ⟨S50x1, .i32⟩
  | 54 => ⟨S50x1, .i32⟩
  | 55 => ⟨S50x1, .i32⟩
  | 56 => ⟨S50x1, .i32⟩
  | 57 => ⟨S50x1, .i32⟩
  | 58 => ⟨S_, .i32⟩
  | 59 => ⟨S50x1, .i32⟩
  | 60 => ⟨S50x1, .i32⟩
  | 61 => ⟨S_, .i32⟩
  | 62 => ⟨S50x1, .i32⟩
  | 63 => ⟨S50x1, .i32⟩
  | 64 => ⟨S50x1, .i32⟩
  | 65 => ⟨S50x1, .i32⟩
  | 66 => ⟨S50x1, .i32⟩
  | 67 => ⟨S_, .i32⟩
  | 68 => ⟨S50x1, .i32⟩
  | 69 => ⟨S50x1, .i32⟩
  | 70 => ⟨S_, .i32⟩
  | 71 => ⟨S50x1, .i32⟩
  | 72 => ⟨S50x1, .i32⟩
  | 73 => ⟨S50x1, .i32⟩
  | 74 => ⟨S50x1, .i32⟩
  | 75 => ⟨S50x1, .i32⟩
  | 76 => ⟨S_, .i32⟩
  | 77 => ⟨S50x1, .i32⟩
  | 78 => ⟨S50x1, .i32⟩
  | 79 => ⟨S_, .i32⟩
  | 80 => ⟨S50x1, .i32⟩
  | 81 => ⟨S50x1, .i32⟩
  | 82 => ⟨S50x1, .i32⟩
  | 83 => ⟨S50x1, .i32⟩
  | 84 => ⟨S50x1, .i32⟩
  | 85 => ⟨S50x1, .i32⟩
  | 86 => ⟨S50x1, .i32⟩
  | 87 => ⟨S50x1, .i32⟩
  | 88 => ⟨S_, .i32⟩
  | 89 => ⟨S50x1, .i32⟩
  | 90 => ⟨S50x1, .i32⟩
  | 91 => ⟨S50x1, .i32⟩
  | 92 => ⟨S_, .i32⟩
  | 93 => ⟨S50x1, .i32⟩
  | 94 => ⟨S50x1, .i32⟩
  | 95 => ⟨S_, .i32⟩
  | 96 => ⟨S50x1, .i32⟩
  | 97 => ⟨S50x1, .i32⟩
  | 98 => ⟨S50x1, .i32⟩
  | 99 => ⟨S50x1, .i32⟩
  | 100 => ⟨S50x1, .i32⟩
  | 101 => ⟨S_, .i32⟩
  | 102 => ⟨S50x1, .i32⟩
  | 103 => ⟨S50x1, .i32⟩
  | 104 => ⟨S_, .i32⟩
  | 105 => ⟨S50x1, .i32⟩
  | 106 => ⟨S50x1, .i32⟩
  | 107 => ⟨S50x1, .i32⟩
  | 108 => ⟨S50x1, .i32⟩
  | 109 => ⟨S50x1, .i32⟩
  | 110 => ⟨S_, .i32⟩
  | 111 => ⟨S50x1, .i32⟩
  | 112 => ⟨S50x1, .i32⟩
  | 113 => ⟨S_, .i32⟩
  | 114 => ⟨S50x1, .i32⟩
  | 115 => ⟨S50x1, .i32⟩
  | 116 => ⟨S50x1, .i32⟩
  | 117 => ⟨S50x1, .i32⟩
  | 118 => ⟨S50x1, .i32⟩
  | 119 => ⟨S_, .i32⟩
  | 120 => ⟨S50x1, .i32⟩
  | 121 => ⟨S50x1, .i32⟩
  | 122 => ⟨S_, .i32⟩
  | 123 => ⟨S50x1, .i32⟩
  | 124 => ⟨S50x1, .i32⟩
  | 125 => ⟨S50x1, .i32⟩
  | 126 => ⟨S50x1, .i32⟩
  | 127 => ⟨S50x1, .i32⟩
  | _ => ⟨S128x50x128, .f32⟩

abbrev hbmTy0_2 (i : Nat) : BufTy := match i % 128 with
  | 0 => ⟨S50x1, .i32⟩
  | 1 => ⟨S50x1, .i32⟩
  | 2 => ⟨S50x1, .i32⟩
  | 3 => ⟨S_, .i32⟩
  | 4 => ⟨S50x1, .i32⟩
  | 5 => ⟨S50x1, .i32⟩
  | 6 => ⟨S50x2, .i32⟩
  | 7 => ⟨S_, .f32⟩
  | 8 => ⟨S_, .f32⟩
  | 9 => ⟨S_, .f32⟩
  | 10 => ⟨S1x1, .f32⟩
  | 11 => ⟨S1x1, .f32⟩
  | 12 => ⟨S50x1, .i32⟩
  | 13 => ⟨S50, .i32⟩
  | 14 => ⟨S50x1, .i32⟩
  | 15 => ⟨S50, .i32⟩
  | 16 => ⟨S128x50, .i64⟩
  | 17 => ⟨S128x50, .i64⟩
  | 18 => ⟨S_, .i64⟩
  | 19 => ⟨S128x50, .i64⟩
  | 20 => ⟨S128x50, .i64⟩
  | 21 => ⟨S_, .i64⟩
  | 22 => ⟨S128x50, .i64⟩
  | 23 => ⟨S128x50, .i64⟩
  | 24 => ⟨S128x50, .i64⟩
  | 25 => ⟨S_, .i64⟩
  | 26 => ⟨S128x50, .i64⟩
  | 27 => ⟨S128x50, .i64⟩
  | 28 => ⟨S128x50, .i32⟩
  | 29 => ⟨S128x50, .i32⟩
  | 30 => ⟨S1x128x50, .i32⟩
  | 31 => ⟨S1x128x50, .i32⟩
  | 32 => ⟨S50x1x1, .i32⟩
  | 33 => ⟨S50x1x1, .i32⟩
  | 34 => ⟨S50x1x1, .i32⟩
  | 35 => ⟨S_, .i32⟩
  | 36 => ⟨S50x1x1, .i32⟩
  | 37 => ⟨S50x1x1, .i32⟩
  | 38 => ⟨S50x128x50, .i32⟩
  | 39 => ⟨S50x128x50, .i32⟩
  | 40 => ⟨S50x128x50, .i32⟩
  | 41 => ⟨S50x128x50, .i32⟩
  | 42 => ⟨S50x128x50, .i32⟩
  | 43 => ⟨S50x128x50, .i32⟩
  | 44 => ⟨S50x128x50, .i32⟩
  | 45 => ⟨S_, .i32⟩
  | 46 => ⟨S50x128x50, .i32⟩
  | 47 => ⟨S50x128x50, .i32⟩
  | 48 => ⟨S_, .i32⟩
  | 49 => ⟨S50x128x50, .i32⟩
  | 50 => ⟨S50x128x50, .i32⟩
  | 51 => ⟨S50x128x50, .i32⟩
  | 52 => ⟨S50x128x50, .i32⟩
  | 53 => ⟨S50x128x50, .i32⟩
  | 54 => ⟨S_, .i32⟩
  | 55 => ⟨S50x128x50, .i32⟩
  | 56 => ⟨S50x128x50, .i32⟩
  | 57 => ⟨S_, .i32⟩
  | 58 => ⟨S50x128x50, .i32⟩
  | 59 => ⟨S50x128x50, .i32⟩
  | 60 => ⟨S50x128x50, .i32⟩
  | 61 => ⟨S50x128x50, .i32⟩
  | 62 => ⟨S50x128x50, .i32⟩
  | 63 => ⟨S_, .i32⟩
  | 64 => ⟨S50x128x50, .i32⟩
  | 65 => ⟨S50x128x50, .i32⟩
  | 66 => ⟨S_, .i32⟩
  | 67 => ⟨S50x128x50, .i32⟩
  | 68 => ⟨S50x128x50, .i32⟩
  | 69 => ⟨S50x128x50, .i32⟩
  | 70 => ⟨S50x128x50, .i32⟩
  | 71 => ⟨S50x128x50, .i32⟩
  | 72 => ⟨S_, .i32⟩
  | 73 => ⟨S50x128x50, .i32⟩
  | 74 => ⟨S50x128x50, .i32⟩
  | 75 => ⟨S_, .i32⟩
  | 76 => ⟨S50x128x50, .i32⟩
  | 77 => ⟨S50x128x50, .i32⟩
  | 78 => ⟨S50x128x50, .i32⟩
  | 79 => ⟨S50x128x50, .i32⟩
  | 80 => ⟨S50x128x50, .i32⟩
  | 81 => ⟨S50x128x50, .i32⟩
  | 82 => ⟨S50x128x50, .i32⟩
  | 83 => ⟨S50x128x50, .i32⟩
  | 84 => ⟨S_, .i32⟩
  | 85 => ⟨S50x128x50, .i32⟩
  | 86 => ⟨S50x128x50, .i32⟩
  | 87 => ⟨S50x128x50, .i32⟩
  | 88 => ⟨S_, .i32⟩
  | 89 => ⟨S50x128x50, .i32⟩
  | 90 => ⟨S50x128x50, .i32⟩
  | 91 => ⟨S_, .i32⟩
  | 92 => ⟨S50x128x50, .i32⟩
  | 93 => ⟨S50x128x50, .i32⟩
  | 94 => ⟨S50x128x50, .i32⟩
  | 95 => ⟨S50x128x50, .i32⟩
  | 96 => ⟨S50x128x50, .i32⟩
  | 97 => ⟨S_, .i32⟩
  | 98 => ⟨S50x128x50, .i32⟩
  | 99 => ⟨S50x128x50, .i32⟩
  | 100 => ⟨S_, .i32⟩
  | 101 => ⟨S50x128x50, .i32⟩
  | 102 => ⟨S50x128x50, .i32⟩
  | 103 => ⟨S50x128x50, .i32⟩
  | 104 => ⟨S50x128x50, .i32⟩
  | 105 => ⟨S50x128x50, .i32⟩
  | 106 => ⟨S_, .i32⟩
  | 107 => ⟨S50x128x50, .i32⟩
  | 108 => ⟨S50x128x50, .i32⟩
  | 109 => ⟨S_, .i32⟩
  | 110 => ⟨S50x128x50, .i32⟩
  | 111 => ⟨S50x128x50, .i32⟩
  | 112 => ⟨S50x128x50, .i32⟩
  | 113 => ⟨S50x128x50, .i32⟩
  | 114 => ⟨S50x128x50, .i32⟩
  | 115 => ⟨S_, .i32⟩
  | 116 => ⟨S50x128x50, .i32⟩
  | 117 => ⟨S50x128x50, .i32⟩
  | 118 => ⟨S_, .i32⟩
  | 119 => ⟨S50x128x50, .i32⟩
  | 120 => ⟨S50x128x50, .i32⟩
  | 121 => ⟨S50x128x50, .i32⟩
  | 122 => ⟨S50x128x50, .i32⟩
  | 123 => ⟨S50x128x50, .i32⟩
  | 124 => ⟨S50x128x50, .i32⟩
  | 125 => ⟨S50x128x50, .i32⟩
  | 126 => ⟨S50x128x50, .i32⟩
  | 127 => ⟨S_, .i32⟩
  | _ => ⟨S128x50x128, .f32⟩

abbrev hbmTy0_3 (i : Nat) : BufTy := match i % 128 with
  | 0 => ⟨S50x128x50, .i32⟩
  | 1 => ⟨S50x128x50, .i32⟩
  | 2 => ⟨S50x128x50, .i32⟩
  | 3 => ⟨S_, .i32⟩
  | 4 => ⟨S50x128x50, .i32⟩
  | 5 => ⟨S50x128x50, .i32⟩
  | 6 => ⟨S_, .i32⟩
  | 7 => ⟨S50x128x50, .i32⟩
  | 8 => ⟨S50x128x50, .i32⟩
  | 9 => ⟨S50x128x50, .i32⟩
  | 10 => ⟨S50x128x50, .i32⟩
  | 11 => ⟨S50x128x50, .i32⟩
  | 12 => ⟨S_, .i32⟩
  | 13 => ⟨S50x128x50, .i32⟩
  | 14 => ⟨S50x128x50, .i32⟩
  | 15 => ⟨S_, .i32⟩
  | 16 => ⟨S50x128x50, .i32⟩
  | 17 => ⟨S50x128x50, .i32⟩
  | 18 => ⟨S50x128x50, .i32⟩
  | 19 => ⟨S50x128x50, .i32⟩
  | 20 => ⟨S50x128x50, .i32⟩
  | 21 => ⟨S_, .i32⟩
  | 22 => ⟨S50x128x50, .i32⟩
  | 23 => ⟨S50x128x50, .i32⟩
  | 24 => ⟨S_, .i32⟩
  | 25 => ⟨S50x128x50, .i32⟩
  | 26 => ⟨S50x128x50, .i32⟩
  | 27 => ⟨S50x128x50, .i32⟩
  | 28 => ⟨S50x128x50, .i32⟩
  | 29 => ⟨S50x128x50, .i32⟩
  | 30 => ⟨S_, .i32⟩
  | 31 => ⟨S50x128x50, .i32⟩
  | 32 => ⟨S50x128x50, .i32⟩
  | 33 => ⟨S_, .i32⟩
  | 34 => ⟨S50x128x50, .i32⟩
  | 35 => ⟨S50x128x50, .i32⟩
  | 36 => ⟨S50x128x50, .i32⟩
  | 37 => ⟨S50x128x50, .i32⟩
  | 38 => ⟨S50x128x50, .i32⟩
  | 39 => ⟨S50x128x50, .i32⟩
  | 40 => ⟨S50x128x50, .i32⟩
  | 41 => ⟨S50x128x50, .i32⟩
  | 42 => ⟨S_, .i32⟩
  | 43 => ⟨S50x128x50, .i32⟩
  | 44 => ⟨S50x128x50, .i32⟩
  | 45 => ⟨S50x128x50, .i32⟩
  | 46 => ⟨S_, .i32⟩
  | 47 => ⟨S50x128x50, .i32⟩
  | 48 => ⟨S50x128x50, .i32⟩
  | 49 => ⟨S_, .i32⟩
  | 50 => ⟨S50x128x50, .i32⟩
  | 51 => ⟨S50x128x50, .i32⟩
  | 52 => ⟨S50x128x50, .i32⟩
  | 53 => ⟨S50x128x50, .i32⟩
  | 54 => ⟨S50x128x50, .i32⟩
  | 55 => ⟨S_, .i32⟩
  | 56 => ⟨S50x128x50, .i32⟩
  | 57 => ⟨S50x128x50, .i32⟩
  | 58 => ⟨S_, .i32⟩
  | 59 => ⟨S50x128x50, .i32⟩
  | 60 => ⟨S50x128x50, .i32⟩
  | 61 => ⟨S50x128x50, .i32⟩
  | 62 => ⟨S50x128x50, .i32⟩
  | 63 => ⟨S50x128x50, .i32⟩
  | 64 => ⟨S_, .i32⟩
  | 65 => ⟨S50x128x50, .i32⟩
  | 66 => ⟨S50x128x50, .i32⟩
  | 67 => ⟨S_, .i32⟩
  | 68 => ⟨S50x128x50, .i32⟩
  | 69 => ⟨S50x128x50, .i32⟩
  | 70 => ⟨S50x128x50, .i32⟩
  | 71 => ⟨S50x128x50, .i32⟩
  | 72 => ⟨S50x128x50, .i32⟩
  | 73 => ⟨S_, .i32⟩
  | 74 => ⟨S50x128x50, .i32⟩
  | 75 => ⟨S50x128x50, .i32⟩
  | 76 => ⟨S_, .i32⟩
  | 77 => ⟨S50x128x50, .i32⟩
  | 78 => ⟨S50x128x50, .i32⟩
  | 79 => ⟨S50x128x50, .i32⟩
  | 80 => ⟨S50x128x50, .i32⟩
  | 81 => ⟨S50x128x50, .i32⟩
  | 82 => ⟨S50x128x50, .i32⟩
  | 83 => ⟨S50x128x50, .i32⟩
  | 84 => ⟨S50x128x50, .i32⟩
  | 85 => ⟨S_, .i32⟩
  | 86 => ⟨S50x128x50, .i32⟩
  | 87 => ⟨S50x128x50, .i32⟩
  | 88 => ⟨S50x128x50, .i32⟩
  | 89 => ⟨S_, .i32⟩
  | 90 => ⟨S50x128x50, .i32⟩
  | 91 => ⟨S50x128x50, .i32⟩
  | 92 => ⟨S_, .i32⟩
  | 93 => ⟨S50x128x50, .i32⟩
  | 94 => ⟨S50x128x50, .i32⟩
  | 95 => ⟨S50x128x50, .i32⟩
  | 96 => ⟨S50x128x50, .i32⟩
  | 97 => ⟨S50x128x50, .i32⟩
  | 98 => ⟨S_, .i32⟩
  | 99 => ⟨S50x128x50, .i32⟩
  | 100 => ⟨S50x128x50, .i32⟩
  | 101 => ⟨S_, .i32⟩
  | 102 => ⟨S50x128x50, .i32⟩
  | 103 => ⟨S50x128x50, .i32⟩
  | 104 => ⟨S50x128x50, .i32⟩
  | 105 => ⟨S50x128x50, .i32⟩
  | 106 => ⟨S50x128x50, .i32⟩
  | 107 => ⟨S_, .i32⟩
  | 108 => ⟨S50x128x50, .i32⟩
  | 109 => ⟨S50x128x50, .i32⟩
  | 110 => ⟨S_, .i32⟩
  | 111 => ⟨S50x128x50, .i32⟩
  | 112 => ⟨S50x128x50, .i32⟩
  | 113 => ⟨S50x128x50, .i32⟩
  | 114 => ⟨S50x128x50, .i32⟩
  | 115 => ⟨S50x128x50, .i32⟩
  | 116 => ⟨S_, .i32⟩
  | 117 => ⟨S50x128x50, .i32⟩
  | 118 => ⟨S50x128x50, .i32⟩
  | 119 => ⟨S_, .i32⟩
  | 120 => ⟨S50x128x50, .i32⟩
  | 121 => ⟨S50x128x50, .i32⟩
  | 122 => ⟨S50x128x50, .i32⟩
  | 123 => ⟨S50x128x50, .i32⟩
  | 124 => ⟨S50x128x50, .i32⟩
  | 125 => ⟨S50x128x50, .i32⟩
  | 126 => ⟨S50x128x50, .i32⟩
  | 127 => ⟨S50x128x50, .i32⟩
  | _ => ⟨S128x50x128, .f32⟩

abbrev hbmTy0_4 (i : Nat) : BufTy := match i % 128 with
  | 0 => ⟨S_, .i32⟩
  | 1 => ⟨S50x128x50, .i32⟩
  | 2 => ⟨S50x128x50, .i32⟩
  | 3 => ⟨S50x128x50, .i32⟩
  | 4 => ⟨S_, .i32⟩
  | 5 => ⟨S50x128x50, .i32⟩
  | 6 => ⟨S50x128x50, .i32⟩
  | 7 => ⟨S_, .i32⟩
  | 8 => ⟨S50x128x50, .i32⟩
  | 9 => ⟨S50x128x50, .i32⟩
  | 10 => ⟨S50x128x50, .f32⟩
  | 11 => ⟨S_, .f32⟩
  | 12 => ⟨S50x128x50, .f32⟩
  | 13 => ⟨S50x128x50, .f32⟩
  | 14 => ⟨S1x1, .f32⟩
  | 15 => ⟨S1x1x1, .f32⟩
  | 16 => ⟨S50x128x50, .f32⟩
  | 17 => ⟨S50x128x50, .f32⟩
  | 18 => ⟨S1x1x1, .f32⟩
  | 19 => ⟨S50x128x50, .f32⟩
  | 20 => ⟨S50x128x50, .f32⟩
  | 21 => ⟨S1x1x1, .f32⟩
  | 22 => ⟨S50x128x50, .f32⟩
  | 23 => ⟨S50x128x50, .f32⟩
  | 24 => ⟨S50x128x50, .f32⟩
  | 25 => ⟨S50x128x50, .f32⟩
  | 26 => ⟨S50x128x50, .f32⟩
  | 27 => ⟨S50x128x50, .f32⟩
  | 28 => ⟨S50x128x128, .f32⟩
  | 29 => ⟨S128x50x1, .f32⟩
  | 30 => ⟨S128x50, .f32⟩
  | 31 => ⟨S128x50x1, .f32⟩
  | 32 => ⟨S128x50, .f32⟩
  | 33 => ⟨S128x50, .f32⟩
  | 34 => ⟨S1x256, .f32⟩
  | 35 => ⟨S128x128, .f32⟩
  | 36 => ⟨S1x128, .f32⟩
  | 37 => ⟨S256x128, .f32⟩
  | 38 => ⟨S1x128, .f32⟩
  | 39 => ⟨S128x128, .f32⟩
  | 40 => ⟨S1x128, .f32⟩
  | 41 => ⟨S128x128, .f32⟩
  | 42 => ⟨S1x128, .f32⟩
  | 43 => ⟨S128x1, .f32⟩
  | 44 => ⟨S128x50, .f32⟩
  | 45 => ⟨S128x1, .f32⟩
  | 46 => ⟨S128x1, .f32⟩
  | 47 => ⟨S128x50, .i32⟩
  | 48 => ⟨S128, .f32⟩
  | 49 => ⟨S128, .f32⟩
  | _ => ⟨S128x50x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x50x128, .f32⟩

abbrev bufTy : (tb : Table) → Fin (tcTables nBuf tb) → BufTy
  | .hbm, ⟨i, _⟩ => hbmTy i
  | .local _ .vmem, ⟨0, _⟩ => ⟨S50x128x128, .f32⟩
  | .local _ .vmem, ⟨1, _⟩ => ⟨S128x50, .f32⟩
  | .local _ .vmem, ⟨2, _⟩ => ⟨S128x50, .f32⟩
  | .local _ .vmem, ⟨3, _⟩ => ⟨S128x50, .f32⟩
  | .local _ .vmem, ⟨4, _⟩ => ⟨S50x128x50, .f32⟩
  | .local _ .vmem, ⟨5, _⟩ => ⟨S1x256, .f32⟩
  | .local _ .vmem, ⟨6, _⟩ => ⟨S128x128, .f32⟩
  | .local _ .vmem, ⟨7, _⟩ => ⟨S1x128, .f32⟩
  | .local _ .vmem, ⟨8, _⟩ => ⟨S256x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x50, .f32⟩
  | .local _ .vmem, ⟨15, _⟩ => ⟨S128x1, .f32⟩
  | .local _ .vmem, ⟨16, _⟩ => ⟨S128x1, .f32⟩
  | .local _ .vmem, ⟨17, _⟩ => ⟨S128x50, .i32⟩
  | .local _ .vmem, ⟨18, _⟩ => ⟨S128x128, .f32⟩
  | .local _ .vmem, ⟨19, _⟩ => ⟨S128x50, .f32⟩
  | .local _ .vmem, ⟨20, _⟩ => ⟨S128x128, .f32⟩
  | .local _ .vmem, ⟨21, _⟩ => ⟨S128x2, .f32⟩
  | .local _ .vmem, ⟨22, _⟩ => ⟨S50x128x128, .f32⟩
  | _, _ => ⟨S128x50x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_c_0 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v13_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v13_1 : Ref sig .tc := ⟨.hbm, 261, rfl⟩
abbrev main_v9 : Ref sig .tc := ⟨.hbm, 262, rfl⟩
abbrev main_call1_cst : Ref sig .tc := ⟨.hbm, 263, rfl⟩
abbrev main_call1_cst_0 : Ref sig .tc := ⟨.hbm, 264, rfl⟩
abbrev main_call1_call0_v0 : Ref sig .tc := ⟨.hbm, 265, rfl⟩
abbrev main_call1_call0_v1 : Ref sig .tc := ⟨.hbm, 266, rfl⟩
abbrev main_call1_call0_v2 : Ref sig .tc := ⟨.hbm, 267, rfl⟩
abbrev main_call1_call0_v3 : Ref sig .tc := ⟨.hbm, 268, rfl⟩
abbrev main_call1_call0_v4 : Ref sig .tc := ⟨.hbm, 269, rfl⟩
abbrev main_call1_call0_v5 : Ref sig .tc := ⟨.hbm, 270, rfl⟩
abbrev main_call1_call0_v6 : Ref sig .tc := ⟨.hbm, 271, rfl⟩
abbrev main_call1_call0_v7 : Ref sig .tc := ⟨.hbm, 272, rfl⟩
abbrev main_call1_call0_v8 : Ref sig .tc := ⟨.hbm, 273, rfl⟩
abbrev main_call1_call0_c : Ref sig .tc := ⟨.hbm, 274, rfl⟩
abbrev main_call1_call0_v9 : Ref sig .tc := ⟨.hbm, 275, rfl⟩
abbrev main_call1_call0_v10 : Ref sig .tc := ⟨.hbm, 276, rfl⟩
abbrev main_call1_call0_c_0 : Ref sig .tc := ⟨.hbm, 277, rfl⟩
abbrev main_call1_call0_v11 : Ref sig .tc := ⟨.hbm, 278, rfl⟩
abbrev main_call1_call0_v12 : Ref sig .tc := ⟨.hbm, 279, rfl⟩
abbrev main_call1_call0_v13 : Ref sig .tc := ⟨.hbm, 280, rfl⟩
abbrev main_call1_call0_c_1 : Ref sig .tc := ⟨.hbm, 281, rfl⟩
abbrev main_call1_call0_v14 : Ref sig .tc := ⟨.hbm, 282, rfl⟩
abbrev main_call1_call0_v15 : Ref sig .tc := ⟨.hbm, 283, rfl⟩
abbrev main_call1_call0_v16 : Ref sig .tc := ⟨.hbm, 284, rfl⟩
abbrev main_call1_call0_v17 : Ref sig .tc := ⟨.hbm, 285, rfl⟩
abbrev main_call1_call0_v18 : Ref sig .tc := ⟨.hbm, 286, rfl⟩
abbrev main_call1_call0_v19 : Ref sig .tc := ⟨.hbm, 287, rfl⟩
abbrev main_call1_call0_v20 : Ref sig .tc := ⟨.hbm, 288, rfl⟩
abbrev main_call1_call0_v21 : Ref sig .tc := ⟨.hbm, 289, rfl⟩
abbrev main_call1_call0_call0_v0 : Ref sig .tc := ⟨.hbm, 290, rfl⟩
abbrev main_call1_call0_call0_c : Ref sig .tc := ⟨.hbm, 291, rfl⟩
abbrev main_call1_call0_call0_v1 : Ref sig .tc := ⟨.hbm, 292, rfl⟩
abbrev main_call1_call0_call0_v2 : Ref sig .tc := ⟨.hbm, 293, rfl⟩
abbrev main_call1_call0_call0_v3 : Ref sig .tc := ⟨.hbm, 294, rfl⟩
abbrev main_call1_call0_call0_v4 : Ref sig .tc := ⟨.hbm, 295, rfl⟩
abbrev main_call1_call0_call0_v5 : Ref sig .tc := ⟨.hbm, 296, rfl⟩
abbrev main_call1_call0_call0_v6 : Ref sig .tc := ⟨.hbm, 297, rfl⟩
abbrev main_call1_call0_call0_v7 : Ref sig .tc := ⟨.hbm, 298, rfl⟩
abbrev main_call1_call0_call0_v8 : Ref sig .tc := ⟨.hbm, 299, rfl⟩
abbrev main_call1_call0_call0_v9 : Ref sig .tc := ⟨.hbm, 300, rfl⟩
abbrev main_call1_call0_call0_c_0 : Ref sig .tc := ⟨.hbm, 301, rfl⟩
abbrev main_call1_call0_call0_v10 : Ref sig .tc := ⟨.hbm, 302, rfl⟩
abbrev main_call1_call0_call0_v11 : Ref sig .tc := ⟨.hbm, 303, rfl⟩
abbrev main_call1_call0_call0_c_1 : Ref sig .tc := ⟨.hbm, 304, rfl⟩
abbrev main_call1_call0_call0_v12 : Ref sig .tc := ⟨.hbm, 305, rfl⟩
abbrev main_call1_call0_call0_v13 : Ref sig .tc := ⟨.hbm, 306, rfl⟩
abbrev main_call1_call0_call0_v14 : Ref sig .tc := ⟨.hbm, 307, rfl⟩
abbrev main_call1_call0_call0_v15 : Ref sig .tc := ⟨.hbm, 308, rfl⟩
abbrev main_call1_call0_call0_v16 : Ref sig .tc := ⟨.hbm, 309, rfl⟩
abbrev main_call1_call0_call0_c_2 : Ref sig .tc := ⟨.hbm, 310, rfl⟩
abbrev main_call1_call0_call0_v17 : Ref sig .tc := ⟨.hbm, 311, rfl⟩
abbrev main_call1_call0_call0_v18 : Ref sig .tc := ⟨.hbm, 312, rfl⟩
abbrev main_call1_call0_call0_c_3 : Ref sig .tc := ⟨.hbm, 313, rfl⟩
abbrev main_call1_call0_call0_v19 : Ref sig .tc := ⟨.hbm, 314, rfl⟩
abbrev main_call1_call0_call0_v20 : Ref sig .tc := ⟨.hbm, 315, rfl⟩
abbrev main_call1_call0_call0_v21 : Ref sig .tc := ⟨.hbm, 316, rfl⟩
abbrev main_call1_call0_call0_v22 : Ref sig .tc := ⟨.hbm, 317, rfl⟩
abbrev main_call1_call0_call0_v23 : Ref sig .tc := ⟨.hbm, 318, rfl⟩
abbrev main_call1_call0_call0_c_4 : Ref sig .tc := ⟨.hbm, 319, rfl⟩
abbrev main_call1_call0_call0_v24 : Ref sig .tc := ⟨.hbm, 320, rfl⟩
abbrev main_call1_call0_call0_v25 : Ref sig .tc := ⟨.hbm, 321, rfl⟩
abbrev main_call1_call0_call0_c_5 : Ref sig .tc := ⟨.hbm, 322, rfl⟩
abbrev main_call1_call0_call0_v26 : Ref sig .tc := ⟨.hbm, 323, rfl⟩
abbrev main_call1_call0_call0_v27 : Ref sig .tc := ⟨.hbm, 324, rfl⟩
abbrev main_call1_call0_call0_v28 : Ref sig .tc := ⟨.hbm, 325, rfl⟩
abbrev main_call1_call0_call0_v29 : Ref sig .tc := ⟨.hbm, 326, rfl⟩
abbrev main_call1_call0_call0_v30 : Ref sig .tc := ⟨.hbm, 327, rfl⟩
abbrev main_call1_call0_call0_c_6 : Ref sig .tc := ⟨.hbm, 328, rfl⟩
abbrev main_call1_call0_call0_v31 : Ref sig .tc := ⟨.hbm, 329, rfl⟩
abbrev main_call1_call0_call0_v32 : Ref sig .tc := ⟨.hbm, 330, rfl⟩
abbrev main_call1_call0_call0_c_7 : Ref sig .tc := ⟨.hbm, 331, rfl⟩
abbrev main_call1_call0_call0_v33 : Ref sig .tc := ⟨.hbm, 332, rfl⟩
abbrev main_call1_call0_call0_v34 : Ref sig .tc := ⟨.hbm, 333, rfl⟩
abbrev main_call1_call0_call0_v35 : Ref sig .tc := ⟨.hbm, 334, rfl⟩
abbrev main_call1_call0_call0_v36 : Ref sig .tc := ⟨.hbm, 335, rfl⟩
abbrev main_call1_call0_call0_v37 : Ref sig .tc := ⟨.hbm, 336, rfl⟩
abbrev main_call1_call0_call0_v38 : Ref sig .tc := ⟨.hbm, 337, rfl⟩
abbrev main_call1_call0_call0_v39 : Ref sig .tc := ⟨.hbm, 338, rfl⟩
abbrev main_call1_call0_call0_v40 : Ref sig .tc := ⟨.hbm, 339, rfl⟩
abbrev main_call1_call0_call0_c_8 : Ref sig .tc := ⟨.hbm, 340, rfl⟩
abbrev main_call1_call0_call0_v41 : Ref sig .tc := ⟨.hbm, 341, rfl⟩
abbrev main_call1_call0_call0_v42 : Ref sig .tc := ⟨.hbm, 342, rfl⟩
abbrev main_call1_call0_call0_v43 : Ref sig .tc := ⟨.hbm, 343, rfl⟩
abbrev main_call1_call0_call0_c_9 : Ref sig .tc := ⟨.hbm, 344, rfl⟩
abbrev main_call1_call0_call0_v44 : Ref sig .tc := ⟨.hbm, 345, rfl⟩
abbrev main_call1_call0_call0_v45 : Ref sig .tc := ⟨.hbm, 346, rfl⟩
abbrev main_call1_call0_call0_c_10 : Ref sig .tc := ⟨.hbm, 347, rfl⟩
abbrev main_call1_call0_call0_v46 : Ref sig .tc := ⟨.hbm, 348, rfl⟩
abbrev main_call1_call0_call0_v47 : Ref sig .tc := ⟨.hbm, 349, rfl⟩
abbrev main_call1_call0_call0_v48 : Ref sig .tc := ⟨.hbm, 350, rfl⟩
abbrev main_call1_call0_call0_v49 : Ref sig .tc := ⟨.hbm, 351, rfl⟩
abbrev main_call1_call0_call0_v50 : Ref sig .tc := ⟨.hbm, 352, rfl⟩
abbrev main_call1_call0_call0_c_11 : Ref sig .tc := ⟨.hbm, 353, rfl⟩
abbrev main_call1_call0_call0_v51 : Ref sig .tc := ⟨.hbm, 354, rfl⟩
abbrev main_call1_call0_call0_v52 : Ref sig .tc := ⟨.hbm, 355, rfl⟩
abbrev main_call1_call0_call0_c_12 : Ref sig .tc := ⟨.hbm, 356, rfl⟩
abbrev main_call1_call0_call0_v53 : Ref sig .tc := ⟨.hbm, 357, rfl⟩
abbrev main_call1_call0_call0_v54 : Ref sig .tc := ⟨.hbm, 358, rfl⟩
abbrev main_call1_call0_call0_v55 : Ref sig .tc := ⟨.hbm, 359, rfl⟩
abbrev main_call1_call0_call0_v56 : Ref sig .tc := ⟨.hbm, 360, rfl⟩
abbrev main_call1_call0_call0_v57 : Ref sig .tc := ⟨.hbm, 361, rfl⟩
abbrev main_call1_call0_call0_c_13 : Ref sig .tc := ⟨.hbm, 362, rfl⟩
abbrev main_call1_call0_call0_v58 : Ref sig .tc := ⟨.hbm, 363, rfl⟩
abbrev main_call1_call0_call0_v59 : Ref sig .tc := ⟨.hbm, 364, rfl⟩
abbrev main_call1_call0_call0_c_14 : Ref sig .tc := ⟨.hbm, 365, rfl⟩
abbrev main_call1_call0_call0_v60 : Ref sig .tc := ⟨.hbm, 366, rfl⟩
abbrev main_call1_call0_call0_v61 : Ref sig .tc := ⟨.hbm, 367, rfl⟩
abbrev main_call1_call0_call0_v62 : Ref sig .tc := ⟨.hbm, 368, rfl⟩
abbrev main_call1_call0_call0_v63 : Ref sig .tc := ⟨.hbm, 369, rfl⟩
abbrev main_call1_call0_call0_v64 : Ref sig .tc := ⟨.hbm, 370, rfl⟩
abbrev main_call1_call0_call0_c_15 : Ref sig .tc := ⟨.hbm, 371, rfl⟩
abbrev main_call1_call0_call0_v65 : Ref sig .tc := ⟨.hbm, 372, rfl⟩
abbrev main_call1_call0_call0_v66 : Ref sig .tc := ⟨.hbm, 373, rfl⟩
abbrev main_call1_call0_call0_c_16 : Ref sig .tc := ⟨.hbm, 374, rfl⟩
abbrev main_call1_call0_call0_v67 : Ref sig .tc := ⟨.hbm, 375, rfl⟩
abbrev main_call1_call0_call0_v68 : Ref sig .tc := ⟨.hbm, 376, rfl⟩
abbrev main_call1_call0_call0_v69 : Ref sig .tc := ⟨.hbm, 377, rfl⟩
abbrev main_call1_call0_call0_v70 : Ref sig .tc := ⟨.hbm, 378, rfl⟩
abbrev main_call1_call0_call0_v71 : Ref sig .tc := ⟨.hbm, 379, rfl⟩
abbrev main_call1_call0_call0_v72 : Ref sig .tc := ⟨.hbm, 380, rfl⟩
abbrev main_call1_call0_call0_v73 : Ref sig .tc := ⟨.hbm, 381, rfl⟩
abbrev main_call1_call0_call0_v74 : Ref sig .tc := ⟨.hbm, 382, rfl⟩
abbrev main_call1_call0_call0_c_17 : Ref sig .tc := ⟨.hbm, 383, rfl⟩
abbrev main_call1_call0_call0_v75 : Ref sig .tc := ⟨.hbm, 384, rfl⟩
abbrev main_call1_call0_call0_v76 : Ref sig .tc := ⟨.hbm, 385, rfl⟩
abbrev main_call1_call0_call0_v77 : Ref sig .tc := ⟨.hbm, 386, rfl⟩
abbrev main_call1_call0_call0_c_18 : Ref sig .tc := ⟨.hbm, 387, rfl⟩
abbrev main_call1_call0_call0_v78 : Ref sig .tc := ⟨.hbm, 388, rfl⟩
abbrev main_call1_call0_call0_v79 : Ref sig .tc := ⟨.hbm, 389, rfl⟩
abbrev main_call1_call0_call0_c_19 : Ref sig .tc := ⟨.hbm, 390, rfl⟩
abbrev main_call1_call0_call0_v80 : Ref sig .tc := ⟨.hbm, 391, rfl⟩
abbrev main_call1_call0_call0_v81 : Ref sig .tc := ⟨.hbm, 392, rfl⟩
abbrev main_call1_call0_call0_v82 : Ref sig .tc := ⟨.hbm, 393, rfl⟩
abbrev main_call1_call0_call0_v83 : Ref sig .tc := ⟨.hbm, 394, rfl⟩
abbrev main_call1_call0_call0_v84 : Ref sig .tc := ⟨.hbm, 395, rfl⟩
abbrev main_call1_call0_call0_c_20 : Ref sig .tc := ⟨.hbm, 396, rfl⟩
abbrev main_call1_call0_call0_v85 : Ref sig .tc := ⟨.hbm, 397, rfl⟩
abbrev main_call1_call0_call0_v86 : Ref sig .tc := ⟨.hbm, 398, rfl⟩
abbrev main_call1_call0_call0_c_21 : Ref sig .tc := ⟨.hbm, 399, rfl⟩
abbrev main_call1_call0_call0_v87 : Ref sig .tc := ⟨.hbm, 400, rfl⟩
abbrev main_call1_call0_call0_v88 : Ref sig .tc := ⟨.hbm, 401, rfl⟩
abbrev main_call1_call0_call0_v89 : Ref sig .tc := ⟨.hbm, 402, rfl⟩
abbrev main_call1_call0_call0_v90 : Ref sig .tc := ⟨.hbm, 403, rfl⟩
abbrev main_call1_call0_call0_v91 : Ref sig .tc := ⟨.hbm, 404, rfl⟩
abbrev main_call1_call0_call0_c_22 : Ref sig .tc := ⟨.hbm, 405, rfl⟩
abbrev main_call1_call0_call0_v92 : Ref sig .tc := ⟨.hbm, 406, rfl⟩
abbrev main_call1_call0_call0_v93 : Ref sig .tc := ⟨.hbm, 407, rfl⟩
abbrev main_call1_call0_call0_c_23 : Ref sig .tc := ⟨.hbm, 408, rfl⟩
abbrev main_call1_call0_call0_v94 : Ref sig .tc := ⟨.hbm, 409, rfl⟩
abbrev main_call1_call0_call0_v95 : Ref sig .tc := ⟨.hbm, 410, rfl⟩
abbrev main_call1_call0_call0_v96 : Ref sig .tc := ⟨.hbm, 411, rfl⟩
abbrev main_call1_call0_call0_v97 : Ref sig .tc := ⟨.hbm, 412, rfl⟩
abbrev main_call1_call0_call0_v98 : Ref sig .tc := ⟨.hbm, 413, rfl⟩
abbrev main_call1_call0_call0_c_24 : Ref sig .tc := ⟨.hbm, 414, rfl⟩
abbrev main_call1_call0_call0_v99 : Ref sig .tc := ⟨.hbm, 415, rfl⟩
abbrev main_call1_call0_call0_v100 : Ref sig .tc := ⟨.hbm, 416, rfl⟩
abbrev main_call1_call0_call0_c_25 : Ref sig .tc := ⟨.hbm, 417, rfl⟩
abbrev main_call1_call0_call0_v101 : Ref sig .tc := ⟨.hbm, 418, rfl⟩
abbrev main_call1_call0_call0_v102 : Ref sig .tc := ⟨.hbm, 419, rfl⟩
abbrev main_call1_call0_call0_v103 : Ref sig .tc := ⟨.hbm, 420, rfl⟩
abbrev main_call1_call0_call0_v104 : Ref sig .tc := ⟨.hbm, 421, rfl⟩
abbrev main_call1_call0_call0_v105 : Ref sig .tc := ⟨.hbm, 422, rfl⟩
abbrev main_call1_call0_call0_v106 : Ref sig .tc := ⟨.hbm, 423, rfl⟩
abbrev main_call1_call0_call0_v107 : Ref sig .tc := ⟨.hbm, 424, rfl⟩
abbrev main_call1_call0_call0_v108 : Ref sig .tc := ⟨.hbm, 425, rfl⟩
abbrev main_call1_call0_call0_c_26 : Ref sig .tc := ⟨.hbm, 426, rfl⟩
abbrev main_call1_call0_call0_v109 : Ref sig .tc := ⟨.hbm, 427, rfl⟩
abbrev main_call1_call0_call0_v110 : Ref sig .tc := ⟨.hbm, 428, rfl⟩
abbrev main_call1_call0_call0_v111 : Ref sig .tc := ⟨.hbm, 429, rfl⟩
abbrev main_call1_call0_call0_c_27 : Ref sig .tc := ⟨.hbm, 430, rfl⟩
abbrev main_call1_call0_call0_v112 : Ref sig .tc := ⟨.hbm, 431, rfl⟩
abbrev main_call1_call0_call0_v113 : Ref sig .tc := ⟨.hbm, 432, rfl⟩
abbrev main_call1_call0_call0_c_28 : Ref sig .tc := ⟨.hbm, 433, rfl⟩
abbrev main_call1_call0_call0_v114 : Ref sig .tc := ⟨.hbm, 434, rfl⟩
abbrev main_call1_call0_call0_v115 : Ref sig .tc := ⟨.hbm, 435, rfl⟩
abbrev main_call1_call0_call0_v116 : Ref sig .tc := ⟨.hbm, 436, rfl⟩
abbrev main_call1_call0_call0_v117 : Ref sig .tc := ⟨.hbm, 437, rfl⟩
abbrev main_call1_call0_call0_v118 : Ref sig .tc := ⟨.hbm, 438, rfl⟩
abbrev main_call1_call0_call0_c_29 : Ref sig .tc := ⟨.hbm, 439, rfl⟩
abbrev main_call1_call0_call0_v119 : Ref sig .tc := ⟨.hbm, 440, rfl⟩
abbrev main_call1_call0_call0_v120 : Ref sig .tc := ⟨.hbm, 441, rfl⟩
abbrev main_call1_call0_call0_c_30 : Ref sig .tc := ⟨.hbm, 442, rfl⟩
abbrev main_call1_call0_call0_v121 : Ref sig .tc := ⟨.hbm, 443, rfl⟩
abbrev main_call1_call0_call0_v122 : Ref sig .tc := ⟨.hbm, 444, rfl⟩
abbrev main_call1_call0_call0_v123 : Ref sig .tc := ⟨.hbm, 445, rfl⟩
abbrev main_call1_call0_call0_v124 : Ref sig .tc := ⟨.hbm, 446, rfl⟩
abbrev main_call1_call0_call0_v125 : Ref sig .tc := ⟨.hbm, 447, rfl⟩
abbrev main_call1_call0_call0_c_31 : Ref sig .tc := ⟨.hbm, 448, rfl⟩
abbrev main_call1_call0_call0_v126 : Ref sig .tc := ⟨.hbm, 449, rfl⟩
abbrev main_call1_call0_call0_v127 : Ref sig .tc := ⟨.hbm, 450, rfl⟩
abbrev main_call1_call0_call0_c_32 : Ref sig .tc := ⟨.hbm, 451, rfl⟩
abbrev main_call1_call0_call0_v128 : Ref sig .tc := ⟨.hbm, 452, rfl⟩
abbrev main_call1_call0_call0_v129 : Ref sig .tc := ⟨.hbm, 453, rfl⟩
abbrev main_call1_call0_call0_v130 : Ref sig .tc := ⟨.hbm, 454, rfl⟩
abbrev main_call1_call0_call0_v131 : Ref sig .tc := ⟨.hbm, 455, rfl⟩
abbrev main_call1_call0_call0_v132 : Ref sig .tc := ⟨.hbm, 456, rfl⟩
abbrev main_call1_call0_call0_c_33 : Ref sig .tc := ⟨.hbm, 457, rfl⟩
abbrev main_call1_call0_call0_v133 : Ref sig .tc := ⟨.hbm, 458, rfl⟩
abbrev main_call1_call0_call0_v134 : Ref sig .tc := ⟨.hbm, 459, rfl⟩
abbrev main_call1_call0_call0_c_34 : Ref sig .tc := ⟨.hbm, 460, rfl⟩
abbrev main_call1_call0_call0_v135 : Ref sig .tc := ⟨.hbm, 461, rfl⟩
abbrev main_call1_call0_call0_v136 : Ref sig .tc := ⟨.hbm, 462, rfl⟩
abbrev main_call1_call0_call0_v137 : Ref sig .tc := ⟨.hbm, 463, rfl⟩
abbrev main_call1_call0_call0_v138 : Ref sig .tc := ⟨.hbm, 464, rfl⟩
abbrev main_call1_call0_call0_v139 : Ref sig .tc := ⟨.hbm, 465, rfl⟩
abbrev main_call1_call0_call0_v140 : Ref sig .tc := ⟨.hbm, 466, rfl⟩
abbrev main_call1_call0_call0_v141 : Ref sig .tc := ⟨.hbm, 467, rfl⟩
abbrev main_call1_call0_call0_v142 : Ref sig .tc := ⟨.hbm, 468, rfl⟩
abbrev main_call1_call0_call0_c_35 : Ref sig .tc := ⟨.hbm, 469, rfl⟩
abbrev main_call1_call0_call0_v143 : Ref sig .tc := ⟨.hbm, 470, rfl⟩
abbrev main_call1_call0_call0_v144 : Ref sig .tc := ⟨.hbm, 471, rfl⟩
abbrev main_call1_call0_call0_v145 : Ref sig .tc := ⟨.hbm, 472, rfl⟩
abbrev main_call1_call0_call0_c_36 : Ref sig .tc := ⟨.hbm, 473, rfl⟩
abbrev main_call1_call0_call0_v146 : Ref sig .tc := ⟨.hbm, 474, rfl⟩
abbrev main_call1_call0_call0_v147 : Ref sig .tc := ⟨.hbm, 475, rfl⟩
abbrev main_call1_call0_call0_c_37 : Ref sig .tc := ⟨.hbm, 476, rfl⟩
abbrev main_call1_call0_call0_v148 : Ref sig .tc := ⟨.hbm, 477, rfl⟩
abbrev main_call1_call0_call0_v149 : Ref sig .tc := ⟨.hbm, 478, rfl⟩
abbrev main_call1_call0_call0_v150 : Ref sig .tc := ⟨.hbm, 479, rfl⟩
abbrev main_call1_call0_call0_v151 : Ref sig .tc := ⟨.hbm, 480, rfl⟩
abbrev main_call1_call0_call0_v152 : Ref sig .tc := ⟨.hbm, 481, rfl⟩
abbrev main_call1_call0_call0_c_38 : Ref sig .tc := ⟨.hbm, 482, rfl⟩
abbrev main_call1_call0_call0_v153 : Ref sig .tc := ⟨.hbm, 483, rfl⟩
abbrev main_call1_call0_call0_v154 : Ref sig .tc := ⟨.hbm, 484, rfl⟩
abbrev main_call1_call0_call0_c_39 : Ref sig .tc := ⟨.hbm, 485, rfl⟩
abbrev main_call1_call0_call0_v155 : Ref sig .tc := ⟨.hbm, 486, rfl⟩
abbrev main_call1_call0_call0_v156 : Ref sig .tc := ⟨.hbm, 487, rfl⟩
abbrev main_call1_call0_call0_v157 : Ref sig .tc := ⟨.hbm, 488, rfl⟩
abbrev main_call1_call0_call0_v158 : Ref sig .tc := ⟨.hbm, 489, rfl⟩
abbrev main_call1_call0_call0_v159 : Ref sig .tc := ⟨.hbm, 490, rfl⟩
abbrev main_call1_call0_call0_c_40 : Ref sig .tc := ⟨.hbm, 491, rfl⟩
abbrev main_call1_call0_call0_v160 : Ref sig .tc := ⟨.hbm, 492, rfl⟩
abbrev main_call1_call0_call0_v161 : Ref sig .tc := ⟨.hbm, 493, rfl⟩
abbrev main_call1_call0_call0_c_41 : Ref sig .tc := ⟨.hbm, 494, rfl⟩
abbrev main_call1_call0_call0_v162 : Ref sig .tc := ⟨.hbm, 495, rfl⟩
abbrev main_call1_call0_call0_v163 : Ref sig .tc := ⟨.hbm, 496, rfl⟩
abbrev main_call1_call0_call0_v164 : Ref sig .tc := ⟨.hbm, 497, rfl⟩
abbrev main_call1_call0_call0_v165 : Ref sig .tc := ⟨.hbm, 498, rfl⟩
abbrev main_call1_call0_call0_v166 : Ref sig .tc := ⟨.hbm, 499, rfl⟩
abbrev main_call1_call0_call0_c_42 : Ref sig .tc := ⟨.hbm, 500, rfl⟩
abbrev main_call1_call0_call0_v167 : Ref sig .tc := ⟨.hbm, 501, rfl⟩
abbrev main_call1_call0_call0_v168 : Ref sig .tc := ⟨.hbm, 502, rfl⟩
abbrev main_call1_call0_call0_c_43 : Ref sig .tc := ⟨.hbm, 503, rfl⟩
abbrev main_call1_call0_call0_v169 : Ref sig .tc := ⟨.hbm, 504, rfl⟩
abbrev main_call1_call0_call0_v170 : Ref sig .tc := ⟨.hbm, 505, rfl⟩
abbrev main_call1_call0_call0_v171 : Ref sig .tc := ⟨.hbm, 506, rfl⟩
abbrev main_call1_call0_call0_v172 : Ref sig .tc := ⟨.hbm, 507, rfl⟩
abbrev main_call1_call0_call0_v173 : Ref sig .tc := ⟨.hbm, 508, rfl⟩
abbrev main_call1_call0_v22_0 : Ref sig .tc := ⟨.hbm, 509, rfl⟩
abbrev main_call1_call0_call0_v175 : Ref sig .tc := ⟨.hbm, 510, rfl⟩
abbrev main_call1_call0_call0_v176 : Ref sig .tc := ⟨.hbm, 511, rfl⟩
abbrev main_call1_call0_call0_c_44 : Ref sig .tc := ⟨.hbm, 512, rfl⟩
abbrev main_call1_call0_call0_v177 : Ref sig .tc := ⟨.hbm, 513, rfl⟩
abbrev main_call1_call0_v22_1 : Ref sig .tc := ⟨.hbm, 514, rfl⟩
abbrev main_call1_call0_v23 : Ref sig .tc := ⟨.hbm, 515, rfl⟩
abbrev main_call1_call0_c_2 : Ref sig .tc := ⟨.hbm, 516, rfl⟩
abbrev main_call1_call0_v24 : Ref sig .tc := ⟨.hbm, 517, rfl⟩
abbrev main_call1_call0_v25 : Ref sig .tc := ⟨.hbm, 518, rfl⟩
abbrev main_call1_call0_c_3 : Ref sig .tc := ⟨.hbm, 519, rfl⟩
abbrev main_call1_call0_v26 : Ref sig .tc := ⟨.hbm, 520, rfl⟩
abbrev main_call1_call0_v27 : Ref sig .tc := ⟨.hbm, 521, rfl⟩
abbrev main_call1_call0_v28 : Ref sig .tc := ⟨.hbm, 522, rfl⟩
abbrev main_call1_call0_cst : Ref sig .tc := ⟨.hbm, 523, rfl⟩
abbrev main_call1_call0_v29 : Ref sig .tc := ⟨.hbm, 524, rfl⟩
abbrev main_call1_call0_v30 : Ref sig .tc := ⟨.hbm, 525, rfl⟩
abbrev main_call1_call0_v31 : Ref sig .tc := ⟨.hbm, 526, rfl⟩
abbrev main_call1_call0_v32 : Ref sig .tc := ⟨.hbm, 527, rfl⟩
abbrev main_call1_call0_v33 : Ref sig .tc := ⟨.hbm, 528, rfl⟩
abbrev main_call1_call0_v34 : Ref sig .tc := ⟨.hbm, 529, rfl⟩
abbrev main_call1_call0_v35 : Ref sig .tc := ⟨.hbm, 530, rfl⟩
abbrev main_call1_call0_v36 : Ref sig .tc := ⟨.hbm, 531, rfl⟩
abbrev main_call1_call0_v37 : Ref sig .tc := ⟨.hbm, 532, rfl⟩
abbrev main_call1_call0_v38 : Ref sig .tc := ⟨.hbm, 533, rfl⟩
abbrev main_call1_call0_v39 : Ref sig .tc := ⟨.hbm, 534, rfl⟩
abbrev main_call1_v0 : Ref sig .tc := ⟨.hbm, 535, rfl⟩
abbrev main_call1_v1 : Ref sig .tc := ⟨.hbm, 536, rfl⟩
abbrev main_call1_v2 : Ref sig .tc := ⟨.hbm, 537, rfl⟩
abbrev main_call1_v3 : Ref sig .tc := ⟨.hbm, 538, rfl⟩
abbrev main_v10 : Ref sig .tc := ⟨.hbm, 539, rfl⟩
abbrev main_v11 : Ref sig .tc := ⟨.hbm, 540, rfl⟩
abbrev main_v12 : Ref sig .tc := ⟨.hbm, 541, rfl⟩
abbrev main_v13 : Ref sig .tc := ⟨.hbm, 542, rfl⟩
abbrev main_v14 : Ref sig .tc := ⟨.hbm, 543, rfl⟩
abbrev main_v15 : Ref sig .tc := ⟨.hbm, 544, rfl⟩
abbrev main_v16 : Ref sig .tc := ⟨.hbm, 545, rfl⟩
abbrev main_v17 : Ref sig .tc := ⟨.hbm, 546, rfl⟩
abbrev main_v18 : Ref sig .tc := ⟨.hbm, 547, rfl⟩
abbrev main_v19 : Ref sig .tc := ⟨.hbm, 548, rfl⟩
abbrev main_v20 : Ref sig .tc := ⟨.hbm, 549, rfl⟩
abbrev main_v21 : Ref sig .tc := ⟨.hbm, 550, rfl⟩
abbrev main_v22 : Ref sig .tc := ⟨.hbm, 551, rfl⟩
abbrev main_v23 : Ref sig .tc := ⟨.hbm, 552, rfl⟩
abbrev main_v24 : Ref sig .tc := ⟨.hbm, 553, rfl⟩
abbrev main_v25 : Ref sig .tc := ⟨.hbm, 554, rfl⟩
abbrev main_v26 : Ref sig .tc := ⟨.hbm, 555, rfl⟩
abbrev main_v27 : Ref sig .tc := ⟨.hbm, 556, rfl⟩
abbrev main_v28_0 : Ref sig .tc := ⟨.hbm, 557, rfl⟩
abbrev main_v28_1 : Ref sig .tc := ⟨.hbm, 558, rfl⟩
abbrev main_v28_2 : Ref sig .tc := ⟨.hbm, 559, rfl⟩
abbrev main_v29 : Ref sig .tc := ⟨.hbm, 560, rfl⟩
abbrev main_v30 : Ref sig .tc := ⟨.hbm, 561, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

@[reducible] def k0_t1_loop : Scf.Loop 32 :=
  let c0_i32_42 : BitVec 32 := 0#32
  let c50_i32 : BitVec 32 := 50#32
  let v205 : BitVec 32 := Scalar.addi c0_i32_42 c50_i32
  let c1_i32 : BitVec 32 := 1#32
  ⟨c0_i32_42, v205, c1_i32⟩
def k0_off1 (k0_t1 : Fin k0_t1_loop.trips) : Fin 3 → Nat :=
  let c0_i32_42 : BitVec 32 := 0#32
  let c1_i32 : BitVec 32 := 1#32
  let arg23 : BitVec 32 := Scf.iv c0_i32_42 c1_i32 k0_t1
  let v207 : Index := Scalar.indexCast arg23
  let c0_44 : Index := 0#32
  let c0_45 : Index := 0#32
  ![v207.toNat, 0, 0]
abbrev stage0_0 : Fin 1 → Memref sig .tc .vmem S50x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S50x128x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x50 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x50 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== ReferenceIdeal.lean ====
abbrev S128x50x128 : Shape := ⟨3, ![128, 50, 128]⟩
abbrev S128x50x2 : Shape := ⟨3, ![128, 50, 2]⟩
abbrev S128x50 : Shape := ⟨2, ![128, 50]⟩
abbrev S256 : Shape := ⟨1, ![256]⟩
abbrev S128x128 : Shape := ⟨2, ![128, 128]⟩
abbrev S128 : Shape := ⟨1, ![128]⟩
abbrev S128x256 : Shape := ⟨2, ![128, 256]⟩
abbrev S_ : Shape := ⟨0, ![]⟩
abbrev S1x128 : Shape := ⟨2, ![1, 128]⟩
abbrev S256x128 : Shape := ⟨2, ![256, 128]⟩
abbrev S1 : Shape := ⟨1, ![1]⟩
abbrev S2 : Shape := ⟨1, ![2]⟩
abbrev S128x2 : Shape := ⟨2, ![128, 2]⟩
abbrev S50 : Shape := ⟨1, ![50]⟩
abbrev S50x128 : Shape := ⟨2, ![50, 128]⟩
abbrev S128x1x128 : Shape := ⟨3, ![128, 1, 128]⟩
abbrev S1x1x128 : Shape := ⟨3, ![1, 1, 128]⟩
abbrev S128x1 : Shape := ⟨2, ![128, 1]⟩
abbrev S1x1 : Shape := ⟨2, ![1, 1]⟩
abbrev S128x1x1 : Shape := ⟨3, ![128, 1, 1]⟩
abbrev S1x1x1 : Shape := ⟨3, ![1, 1, 1]⟩
abbrev S128x1x2 : Shape := ⟨3, ![128, 1, 2]⟩
abbrev S128x1x2x1 : Shape := ⟨4, ![128, 1, 2, 1]⟩
abbrev S1x1x1x1 : Shape := ⟨4, ![1, 1, 1, 1]⟩
abbrev S128x1x128x1 : Shape := ⟨4, ![128, 1, 128, 1]⟩
abbrev S49x128 : Shape := ⟨2, ![49, 128]⟩

abbrev nBuf : Space → Nat
  | .hbm => 757
  | .vmem => 0
  | .smem => 0
  | _ => 0

abbrev hbmTy0_0 (i : Nat) : BufTy := match i % 128 with
  | 0 => ⟨S128x50x128, .f32⟩
  | 1 => ⟨S128x50x2, .f32⟩
  | 2 => ⟨S128x50, .i1⟩
  | 3 => ⟨S256, .f32⟩
  | 4 => ⟨S128x128, .f32⟩
  | 5 => ⟨S128, .f32⟩
  | 6 => ⟨S128x256, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S_, .f32⟩
  | 14 => ⟨S128x128, .f32⟩
  | 15 => ⟨S_, .f32⟩
  | 16 => ⟨S128x128, .f32⟩
  | 17 => ⟨S128x128, .f32⟩
  | 18 => ⟨S128x128, .f32⟩
  | 19 => ⟨S128x128, .f32⟩
  | 20 => ⟨S1x128, .f32⟩
  | 21 => ⟨S128x128, .f32⟩
  | 22 => ⟨S128x128, .f32⟩
  | 23 => ⟨S256x128, .f32⟩
  | 24 => ⟨S128, .f32⟩
  | 25 => ⟨S128, .f32⟩
  | 26 => ⟨S_, .i32⟩
  | 27 => ⟨S_, .i32⟩
  | 28 => ⟨S_, .i32⟩
  | 29 => ⟨S_, .i32⟩
  | 30 => ⟨S1, .i32⟩
  | 31 => ⟨S_, .i32⟩
  | 32 => ⟨S_, .i32⟩
  | 33 => ⟨S_, .i32⟩
  | 34 => ⟨S1, .i32⟩
  | 35 => ⟨S2, .i32⟩
  | 36 => ⟨S128, .i32⟩
  | 37 => ⟨S1x128, .f32⟩
  | 38 => ⟨S128x128, .f32⟩
  | 39 => ⟨S128x128, .f32⟩
  | 40 => ⟨S_, .f32⟩
  | 41 => ⟨S128x128, .f32⟩
  | 42 => ⟨S_, .f32⟩
  | 43 => ⟨S128x2, .f32⟩
  | 44 => ⟨S50, .i32⟩
  | 45 => ⟨S_, .f32⟩
  | 46 => ⟨S50x128, .f32⟩
  | 47 => ⟨S_, .f32⟩
  | 48 => ⟨S50x128, .f32⟩
  | 49 => ⟨S_, .i32⟩
  | 50 => ⟨S50x128, .i32⟩
  | 51 => ⟨S_, .i32⟩
  | 52 => ⟨S50, .i32⟩
  | 53 => ⟨S128x128, .f32⟩
  | 54 => ⟨S128, .f32⟩
  | 55 => ⟨S128x128, .f32⟩
  | 56 => ⟨S128x50x128, .f32⟩
  | 57 => ⟨S128, .f32⟩
  | 58 => ⟨S128, .f32⟩
  | 59 => ⟨S2, .i32⟩
  | 60 => ⟨S128, .i32⟩
  | 61 => ⟨S128x50x2, .f32⟩
  | 62 => ⟨S128x256, .f32⟩
  | 63 => ⟨S128, .f32⟩
  | 64 => ⟨S128x128, .f32⟩
  | 65 => ⟨S_, .i32⟩
  | 66 => ⟨S128x128, .f32⟩
  | 67 => ⟨S128x50, .i1⟩
  | 68 => ⟨S128x128, .f32⟩
  | 69 => ⟨S128x2, .f32⟩
  | 70 => ⟨S50x128, .f32⟩
  | 71 => ⟨S50x128, .f32⟩
  | 72 => ⟨S50x128, .i32⟩
  | 73 => ⟨S_, .i32⟩
  | 74 => ⟨S_, .i1⟩
  | 75 => ⟨S1, .i32⟩
  | 76 => ⟨S_, .i32⟩
  | 77 => ⟨S128x128, .f32⟩
  | 78 => ⟨S128x128, .f32⟩
  | 79 => ⟨S1x128, .f32⟩
  | 80 => ⟨S128x128, .f32⟩
  | 81 => ⟨S128x128, .f32⟩
  | 82 => ⟨S128x1x128, .f32⟩
  | 83 => ⟨S128x128, .f32⟩
  | 84 => ⟨S128x50x128, .f32⟩
  | 85 => ⟨S1x1x128, .f32⟩
  | 86 => ⟨S128x50x128, .f32⟩
  | 87 => ⟨S128x50x128, .f32⟩
  | 88 => ⟨S128x50x128, .f32⟩
  | 89 => ⟨S128x50x128, .f32⟩
  | 90 => ⟨S128x50x128, .f32⟩
  | 91 => ⟨S_, .f32⟩
  | 92 => ⟨S128x50x128, .f32⟩
  | 93 => ⟨S128x50x128, .f32⟩
  | 94 => ⟨S128x50, .f32⟩
  | 95 => ⟨S_, .f32⟩
  | 96 => ⟨S_, .f32⟩
  | 97 => ⟨S128x50, .f32⟩
  | 98 => ⟨S128x50, .f32⟩
  | 99 => ⟨S_, .f32⟩
  | 100 => ⟨S128, .f32⟩
  | 101 => ⟨S_, .f32⟩
  | 102 => ⟨S128, .f32⟩
  | 103 => ⟨S128, .f32⟩
  | 104 => ⟨S128x1, .f32⟩
  | 105 => ⟨S128x50, .f32⟩
  | 106 => ⟨S128x50, .f32⟩
  | 107 => ⟨S128x50, .f32⟩
  | 108 => ⟨S_, .f32⟩
  | 109 => ⟨S128, .f32⟩
  | 110 => ⟨S128x1, .f32⟩
  | 111 => ⟨S128x50, .f32⟩
  | 112 => ⟨S128x50, .f32⟩
  | 113 => ⟨S_, .i32⟩
  | 114 => ⟨S_, .i32⟩
  | 115 => ⟨S_, .i32⟩
  | 116 => ⟨S1, .i32⟩
  | 117 => ⟨S_, .i32⟩
  | 118 => ⟨S_, .i32⟩
  | 119 => ⟨S1, .i32⟩
  | 120 => ⟨S2, .i32⟩
  | 121 => ⟨S1, .i32⟩
  | 122 => ⟨S_, .i32⟩
  | 123 => ⟨S1, .i32⟩
  | 124 => ⟨S_, .i32⟩
  | 125 => ⟨S1, .i32⟩
  | 126 => ⟨S1, .i32⟩
  | 127 => ⟨S_, .i32⟩
  | _ => ⟨S128x50x128, .f32⟩

abbrev hbmTy0_1 (i : Nat) : BufTy := match i % 128 with
  | 0 => ⟨S_, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S_, .i32⟩
  | 54 => ⟨S1, .i32⟩
  | 55 => ⟨S1, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S128x50x128, .f32⟩

abbrev hbmTy0_2 (i : Nat) : BufTy := match i % 128 with
  | 0 => ⟨S1, .i32⟩
  | 1 => ⟨S1, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S_, .i32⟩
  | 12 => ⟨S1, .i32⟩
  | 13 => ⟨S1, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S_, .i32⟩
  | 21 => ⟨S1, .i32⟩
  | 22 => ⟨S1, .i32⟩
  | 23 => ⟨S1, .i32⟩
  | 24 => ⟨S1, .i32⟩
  | 25 => ⟨S1, .i32⟩
  | 26 => ⟨S_, .i32⟩
  | 27 => ⟨S1, .i32⟩
  | 28 => ⟨S1, .i32⟩
  | 29 => ⟨S_, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S_, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S2, .i32⟩
  | 94 => ⟨S_, .f32⟩
  | 95 => ⟨S128x50, .f32⟩
  | 96 => ⟨S128x50, .f32⟩
  | 97 => ⟨S128x50, .f32⟩
  | 98 => ⟨S_, .f32⟩
  | 99 => ⟨S_, .f32⟩
  | 100 => ⟨S_, .f32⟩
  | 101 => ⟨S1x1, .f32⟩
  | 102 => ⟨S1x1, .f32⟩
  | 103 => ⟨S1, .i32⟩
  | 104 => ⟨S_, .i32⟩
  | 105 => ⟨S1, .i32⟩
  | 106 => ⟨S_, .i32⟩
  | 107 => ⟨S128x50, .i64⟩
  | 108 => ⟨S128x50, .i64⟩
  | 109 => ⟨S_, .i64⟩
  | 110 => ⟨S128x50, .i64⟩
  | 111 => ⟨S128x50, .i64⟩
  | 112 => ⟨S_, .i64⟩
  | 113 => ⟨S128x50, .i64⟩
  | 114 => ⟨S128x50, .i64⟩
  | 115 => ⟨S128x50, .i64⟩
  | 116 => ⟨S_, .i64⟩
  | 117 => ⟨S128x50, .i64⟩
  | 118 => ⟨S128x50, .i64⟩
  | 119 => ⟨S128x50, .i32⟩
  | 120 => ⟨S128x50, .i32⟩
  | 121 => ⟨S_, .i32⟩
  | 122 => ⟨S_, .i32⟩
  | 123 => ⟨S_, .i32⟩
  | 124 => ⟨S128x50, .i32⟩
  | 125 => ⟨S128x50, .i32⟩
  | 126 => ⟨S128x50, .i32⟩
  | 127 => ⟨S128x50, .i32⟩
  | _ => ⟨S128x50x128, .f32⟩

abbrev hbmTy0_3 (i : Nat) : BufTy := match i % 128 with
  | 0 => ⟨S128x50, .i32⟩
  | 1 => ⟨S_, .i32⟩
  | 2 => ⟨S128x50, .i32⟩
  | 3 => ⟨S128x50, .i32⟩
  | 4 => ⟨S_, .i32⟩
  | 5 => ⟨S128x50, .i32⟩
  | 6 => ⟨S128x50, .i32⟩
  | 7 => ⟨S128x50, .i32⟩
  | 8 => ⟨S128x50, .i32⟩
  | 9 => ⟨S128x50, .i32⟩
  | 10 => ⟨S_, .i32⟩
  | 11 => ⟨S128x50, .i32⟩
  | 12 => ⟨S128x50, .i32⟩
  | 13 => ⟨S_, .i32⟩
  | 14 => ⟨S128x50, .i32⟩
  | 15 => ⟨S128x50, .i32⟩
  | 16 => ⟨S128x50, .i32⟩
  | 17 => ⟨S128x50, .i32⟩
  | 18 => ⟨S128x50, .i32⟩
  | 19 => ⟨S_, .i32⟩
  | 20 => ⟨S128x50, .i32⟩
  | 21 => ⟨S128x50, .i32⟩
  | 22 => ⟨S_, .i32⟩
  | 23 => ⟨S128x50, .i32⟩
  | 24 => ⟨S128x50, .i32⟩
  | 25 => ⟨S128x50, .i32⟩
  | 26 => ⟨S128x50, .i32⟩
  | 27 => ⟨S128x50, .i32⟩
  | 28 => ⟨S_, .i32⟩
  | 29 => ⟨S128x50, .i32⟩
  | 30 => ⟨S128x50, .i32⟩
  | 31 => ⟨S_, .i32⟩
  | 32 => ⟨S128x50, .i32⟩
  | 33 => ⟨S128x50, .i32⟩
  | 34 => ⟨S128x50, .i32⟩
  | 35 => ⟨S128x50, .i32⟩
  | 36 => ⟨S128x50, .i32⟩
  | 37 => ⟨S128x50, .i32⟩
  | 38 => ⟨S128x50, .i32⟩
  | 39 => ⟨S128x50, .i32⟩
  | 40 => ⟨S_, .i32⟩
  | 41 => ⟨S128x50, .i32⟩
  | 42 => ⟨S128x50, .i32⟩
  | 43 => ⟨S128x50, .i32⟩
  | 44 => ⟨S_, .i32⟩
  | 45 => ⟨S128x50, .i32⟩
  | 46 => ⟨S128x50, .i32⟩
  | 47 => ⟨S_, .i32⟩
  | 48 => ⟨S128x50, .i32⟩
  | 49 => ⟨S128x50, .i32⟩
  | 50 => ⟨S128x50, .i32⟩
  | 51 => ⟨S128x50, .i32⟩
  | 52 => ⟨S128x50, .i32⟩
  | 53 => ⟨S_, .i32⟩
  | 54 => ⟨S128x50, .i32⟩
  | 55 => ⟨S128x50, .i32⟩
  | 56 => ⟨S_, .i32⟩
  | 57 => ⟨S128x50, .i32⟩
  | 58 => ⟨S128x50, .i32⟩
  | 59 => ⟨S128x50, .i32⟩
  | 60 => ⟨S128x50, .i32⟩
  | 61 => ⟨S128x50, .i32⟩
  | 62 => ⟨S_, .i32⟩
  | 63 => ⟨S128x50, .i32⟩
  | 64 => ⟨S128x50, .i32⟩
  | 65 => ⟨S_, .i32⟩
  | 66 => ⟨S128x50, .i32⟩
  | 67 => ⟨S128x50, .i32⟩
  | 68 => ⟨S128x50, .i32⟩
  | 69 => ⟨S128x50, .i32⟩
  | 70 => ⟨S128x50, .i32⟩
  | 71 => ⟨S_, .i32⟩
  | 72 => ⟨S128x50, .i32⟩
  | 73 => ⟨S128x50, .i32⟩
  | 74 => ⟨S_, .i32⟩
  | 75 => ⟨S128x50, .i32⟩
  | 76 => ⟨S128x50, .i32⟩
  | 77 => ⟨S128x50, .i32⟩
  | 78 => ⟨S128x50, .i32⟩
  | 79 => ⟨S128x50, .i32⟩
  | 80 => ⟨S128x50, .i32⟩
  | 81 => ⟨S128x50, .i32⟩
  | 82 => ⟨S128x50, .i32⟩
  | 83 => ⟨S_, .i32⟩
  | 84 => ⟨S128x50, .i32⟩
  | 85 => ⟨S128x50, .i32⟩
  | 86 => ⟨S128x50, .i32⟩
  | 87 => ⟨S_, .i32⟩
  | 88 => ⟨S128x50, .i32⟩
  | 89 => ⟨S128x50, .i32⟩
  | 90 => ⟨S_, .i32⟩
  | 91 => ⟨S128x50, .i32⟩
  | 92 => ⟨S128x50, .i32⟩
  | 93 => ⟨S128x50, .i32⟩
  | 94 => ⟨S128x50, .i32⟩
  | 95 => ⟨S128x50, .i32⟩
  | 96 => ⟨S_, .i32⟩
  | 97 => ⟨S128x50, .i32⟩
  | 98 => ⟨S128x50, .i32⟩
  | 99 => ⟨S_, .i32⟩
  | 100 => ⟨S128x50, .i32⟩
  | 101 => ⟨S128x50, .i32⟩
  | 102 => ⟨S128x50, .i32⟩
  | 103 => ⟨S128x50, .i32⟩
  | 104 => ⟨S128x50, .i32⟩
  | 105 => ⟨S_, .i32⟩
  | 106 => ⟨S128x50, .i32⟩
  | 107 => ⟨S128x50, .i32⟩
  | 108 => ⟨S_, .i32⟩
  | 109 => ⟨S128x50, .i32⟩
  | 110 => ⟨S128x50, .i32⟩
  | 111 => ⟨S128x50, .i32⟩
  | 112 => ⟨S128x50, .i32⟩
  | 113 => ⟨S128x50, .i32⟩
  | 114 => ⟨S_, .i32⟩
  | 115 => ⟨S128x50, .i32⟩
  | 116 => ⟨S128x50, .i32⟩
  | 117 => ⟨S_, .i32⟩
  | 118 => ⟨S128x50, .i32⟩
  | 119 => ⟨S128x50, .i32⟩
  | 120 => ⟨S128x50, .i32⟩
  | 121 => ⟨S128x50, .i32⟩
  | 122 => ⟨S128x50, .i32⟩
  | 123 => ⟨S128x50, .i32⟩
  | 124 => ⟨S128x50, .i32⟩
  | 125 => ⟨S128x50, .i32⟩
  | 126 => ⟨S_, .i32⟩
  | 127 => ⟨S128x50, .i32⟩
  | _ => ⟨S128x50x128, .f32⟩

abbrev hbmTy0_4 (i : Nat) : BufTy := match i % 128 with
  | 0 => ⟨S128x50, .i32⟩
  | 1 => ⟨S128x50, .i32⟩
  | 2 => ⟨S_, .i32⟩
  | 3 => ⟨S128x50, .i32⟩
  | 4 => ⟨S128x50, .i32⟩
  | 5 => ⟨S_, .i32⟩
  | 6 => ⟨S128x50, .i32⟩
  | 7 => ⟨S128x50, .i32⟩
  | 8 => ⟨S128x50, .i32⟩
  | 9 => ⟨S128x50, .i32⟩
  | 10 => ⟨S128x50, .i32⟩
  | 11 => ⟨S_, .i32⟩
  | 12 => ⟨S128x50, .i32⟩
  | 13 => ⟨S128x50, .i32⟩
  | 14 => ⟨S_, .i32⟩
  | 15 => ⟨S128x50, .i32⟩
  | 16 => ⟨S128x50, .i32⟩
  | 17 => ⟨S128x50, .i32⟩
  | 18 => ⟨S128x50, .i32⟩
  | 19 => ⟨S128x50, .i32⟩
  | 20 => ⟨S_, .i32⟩
  | 21 => ⟨S128x50, .i32⟩
  | 22 => ⟨S128x50, .i32⟩
  | 23 => ⟨S_, .i32⟩
  | 24 => ⟨S128x50, .i32⟩
  | 25 => ⟨S128x50, .i32⟩
  | 26 => ⟨S128x50, .i32⟩
  | 27 => ⟨S128x50, .i32⟩
  | 28 => ⟨S128x50, .i32⟩
  | 29 => ⟨S_, .i32⟩
  | 30 => ⟨S128x50, .i32⟩
  | 31 => ⟨S128x50, .i32⟩
  | 32 => ⟨S_, .i32⟩
  | 33 => ⟨S128x50, .i32⟩
  | 34 => ⟨S128x50, .i32⟩
  | 35 => ⟨S128x50, .i32⟩
  | 36 => ⟨S128x50, .i32⟩
  | 37 => ⟨S128x50, .i32⟩
  | 38 => ⟨S128x50, .i32⟩
  | 39 => ⟨S128x50, .i32⟩
  | 40 => ⟨S128x50, .i32⟩
  | 41 => ⟨S_, .i32⟩
  | 42 => ⟨S128x50, .i32⟩
  | 43 => ⟨S128x50, .i32⟩
  | 44 => ⟨S128x50, .i32⟩
  | 45 => ⟨S_, .i32⟩
  | 46 => ⟨S128x50, .i32⟩
  | 47 => ⟨S128x50, .i32⟩
  | 48 => ⟨S_, .i32⟩
  | 49 => ⟨S128x50, .i32⟩
  | 50 => ⟨S128x50, .i32⟩
  | 51 => ⟨S128x50, .i32⟩
  | 52 => ⟨S128x50, .i32⟩
  | 53 => ⟨S128x50, .i32⟩
  | 54 => ⟨S_, .i32⟩
  | 55 => ⟨S128x50, .i32⟩
  | 56 => ⟨S128x50, .i32⟩
  | 57 => ⟨S_, .i32⟩
  | 58 => ⟨S128x50, .i32⟩
  | 59 => ⟨S128x50, .i32⟩
  | 60 => ⟨S128x50, .i32⟩
  | 61 => ⟨S128x50, .i32⟩
  | 62 => ⟨S128x50, .i32⟩
  | 63 => ⟨S_, .i32⟩
  | 64 => ⟨S128x50, .i32⟩
  | 65 => ⟨S128x50, .i32⟩
  | 66 => ⟨S_, .i32⟩
  | 67 => ⟨S128x50, .i32⟩
  | 68 => ⟨S128x50, .i32⟩
  | 69 => ⟨S128x50, .i32⟩
  | 70 => ⟨S128x50, .i32⟩
  | 71 => ⟨S128x50, .i32⟩
  | 72 => ⟨S_, .i32⟩
  | 73 => ⟨S128x50, .i32⟩
  | 74 => ⟨S128x50, .i32⟩
  | 75 => ⟨S_, .i32⟩
  | 76 => ⟨S128x50, .i32⟩
  | 77 => ⟨S128x50, .i32⟩
  | 78 => ⟨S128x50, .i32⟩
  | 79 => ⟨S128x50, .i32⟩
  | 80 => ⟨S128x50, .i32⟩
  | 81 => ⟨S128x50, .i32⟩
  | 82 => ⟨S128x50, .i32⟩
  | 83 => ⟨S128x50, .i32⟩
  | 84 => ⟨S_, .i32⟩
  | 85 => ⟨S128x50, .i32⟩
  | 86 => ⟨S128x50, .i32⟩
  | 87 => ⟨S128x50, .i32⟩
  | 88 => ⟨S_, .i32⟩
  | 89 => ⟨S128x50, .i32⟩
  | 90 => ⟨S128x50, .i32⟩
  | 91 => ⟨S_, .i32⟩
  | 92 => ⟨S128x50, .i32⟩
  | 93 => ⟨S128x50, .i32⟩
  | 94 => ⟨S128x50, .f32⟩
  | 95 => ⟨S_, .f32⟩
  | 96 => ⟨S128x50, .f32⟩
  | 97 => ⟨S128x50, .f32⟩
  | 98 => ⟨S1x1, .f32⟩
  | 99 => ⟨S128x50, .f32⟩
  | 100 => ⟨S128x50, .f32⟩
  | 101 => ⟨S128x50, .f32⟩
  | 102 => ⟨S128x50, .f32⟩
  | 103 => ⟨S128x50, .f32⟩
  | 104 => ⟨S128x50, .f32⟩
  | 105 => ⟨S128x50, .f32⟩
  | 106 => ⟨S128x50, .f32⟩
  | 107 => ⟨S128x50, .f32⟩
  | 108 => ⟨S128x50, .f32⟩
  | 109 => ⟨S128x50, .f32⟩
  | 110 => ⟨S128x50, .i32⟩
  | 111 => ⟨S_, .f32⟩
  | 112 => ⟨S_, .i32⟩
  | 113 => ⟨S128, .f32⟩
  | 114 => ⟨S128, .i32⟩
  | 115 => ⟨S128x1, .i32⟩
  | 116 => ⟨S_, .i32⟩
  | 117 => ⟨S128x1, .i32⟩
  | 118 => ⟨S128x1, .i1⟩
  | 119 => ⟨S_, .i32⟩
  | 120 => ⟨S128x1, .i32⟩
  | 121 => ⟨S128x1, .i32⟩
  | 122 => ⟨S128x1, .i32⟩
  | 123 => ⟨S128x1x1, .i32⟩
  | 124 => ⟨S1, .i32⟩
  | 125 => ⟨S_, .i32⟩
  | 126 => ⟨S128x1x1, .i32⟩
  | 127 => ⟨S128x1x1, .i1⟩
  | _ => ⟨S128x50x128, .f32⟩

abbrev hbmTy0_5 (i : Nat) : BufTy := match i % 128 with
  | 0 => ⟨S1x1x1, .i32⟩
  | 1 => ⟨S128x1x1, .i32⟩
  | 2 => ⟨S128x1x1, .i1⟩
  | 3 => ⟨S128x1x1, .i1⟩
  | 4 => ⟨S_, .i1⟩
  | 5 => ⟨S128x1, .i1⟩
  | 6 => ⟨S128x1, .f32⟩
  | 7 => ⟨S_, .f32⟩
  | 8 => ⟨S128x1, .f32⟩
  | 9 => ⟨S128x1, .f32⟩
  | 10 => ⟨S128, .f32⟩
  | 11 => ⟨S_, .f32⟩
  | 12 => ⟨S128, .f32⟩
  | 13 => ⟨S128, .f32⟩
  | 14 => ⟨S128, .f32⟩
  | 15 => ⟨S_, .i32⟩
  | 16 => ⟨S128, .i32⟩
  | 17 => ⟨S128, .i1⟩
  | 18 => ⟨S_, .i32⟩
  | 19 => ⟨S128, .i32⟩
  | 20 => ⟨S128, .i32⟩
  | 21 => ⟨S128, .i32⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S128x1, .i32⟩
  | 31 => ⟨S128x2, .i32⟩
  | 32 => ⟨S_, .i1⟩
  | 33 => ⟨S128, .i1⟩
  | 34 => ⟨S128x50, .i1⟩
  | 35 => ⟨S128x1x1, .i32⟩
  | 36 => ⟨S128x1x2, .i32⟩
  | 37 => ⟨S_, .i32⟩
  | 38 => ⟨S128x1x2, .i32⟩
  | 39 => ⟨S128x1x2, .i1⟩
  | 40 => ⟨S_, .i32⟩
  | 41 => ⟨S128x1x2, .i32⟩
  | 42 => ⟨S128x1x2, .i32⟩
  | 43 => ⟨S128x1x2, .i32⟩
  | 44 => ⟨S128x1x2x1, .i32⟩
  | 45 => ⟨S1, .i32⟩
  | 46 => ⟨S_, .i32⟩
  | 47 => ⟨S128x1x2x1, .i32⟩
  | 48 => ⟨S128x1x2x1, .i1⟩
  | 49 => ⟨S1x1x1x1, .i32⟩
  | 50 => ⟨S128x1x2x1, .i32⟩
  | 51 => ⟨S128x1x2x1, .i1⟩
  | 52 => ⟨S128x1x2x1, .i1⟩
  | 53 => ⟨S_, .i1⟩
  | 54 => ⟨S128x1x2, .i1⟩
  | 55 => ⟨S128x1x2, .f32⟩
  | 56 => ⟨S_, .f32⟩
  | 57 => ⟨S128x1x2, .f32⟩
  | 58 => ⟨S128x1x2, .f32⟩
  | 59 => ⟨S128x2, .f32⟩
  | 60 => ⟨S128x2, .f32⟩
  | 61 => ⟨S128x2, .f32⟩
  | 62 => ⟨S_, .f32⟩
  | 63 => ⟨S128, .f32⟩
  | 64 => ⟨S128, .f32⟩
  | 65 => ⟨S128x1x1, .i32⟩
  | 66 => ⟨S128x1x128, .i32⟩
  | 67 => ⟨S_, .i32⟩
  | 68 => ⟨S128x1x128, .i32⟩
  | 69 => ⟨S128x1x128, .i1⟩
  | 70 => ⟨S_, .i32⟩
  | 71 => ⟨S128x1x128, .i32⟩
  | 72 => ⟨S128x1x128, .i32⟩
  | 73 => ⟨S128x1x128, .i32⟩
  | 74 => ⟨S128x1x128x1, .i32⟩
  | 75 => ⟨S1, .i32⟩
  | 76 => ⟨S_, .i32⟩
  | 77 => ⟨S128x1x128x1, .i32⟩
  | 78 => ⟨S128x1x128x1, .i1⟩
  | 79 => ⟨S1x1x1x1, .i32⟩
  | 80 => ⟨S128x1x128x1, .i32⟩
  | 81 => ⟨S128x1x128x1, .i1⟩
  | 82 => ⟨S128x1x128x1, .i1⟩
  | 83 => ⟨S_, .i1⟩
  | 84 => ⟨S128x1x128, .i1⟩
  | 85 => ⟨S128x1x128, .f32⟩
  | 86 => ⟨S_, .f32⟩
  | 87 => ⟨S128x1x128, .f32⟩
  | 88 => ⟨S128x1x128, .f32⟩
  | 89 => ⟨S128x128, .f32⟩
  | 90 => ⟨S_, .i32⟩
  | 91 => ⟨S_, .i1⟩
  | 92 => ⟨S128x128, .f32⟩
  | 93 => ⟨S128x256, .f32⟩
  | 94 => ⟨S256x128, .f32⟩
  | 95 => ⟨S128x128, .f32⟩
  | 96 => ⟨S1x128, .f32⟩
  | 97 => ⟨S128x128, .f32⟩
  | 98 => ⟨S128x128, .f32⟩
  | 99 => ⟨S128x128, .f32⟩
  | 100 => ⟨S1x128, .f32⟩
  | 101 => ⟨S_, .i32⟩
  | 102 => ⟨S50x128, .f32⟩
  | 103 => ⟨S1x128, .f32⟩
  | 104 => ⟨S_, .i32⟩
  | 105 => ⟨S50x128, .f32⟩
  | 106 => ⟨S1x128, .i32⟩
  | 107 => ⟨S_, .i32⟩
  | 108 => ⟨S50x128, .i32⟩
  | 109 => ⟨S_, .i32⟩
  | 110 => ⟨S_, .i32⟩
  | 111 => ⟨S_, .f32⟩
  | 112 => ⟨S128, .f32⟩
  | 113 => ⟨S49x128, .f32⟩
  | 114 => ⟨S_, .f32⟩
  | 115 => ⟨S128, .f32⟩
  | 116 => ⟨S128x50, .i32⟩
  | _ => ⟨S128x50x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S128x50x128, .f32⟩

abbrev bufTy : (tb : Table) → Fin (tcTables nBuf tb) → BufTy
  | .hbm, ⟨i, _⟩ => hbmTy i
  | _, _ => ⟨S128x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_c_8 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_v28_3 : Ref sig .tc := ⟨.hbm, 55, rfl⟩
abbrev main_v28_4 : Ref sig .tc := ⟨.hbm, 56, rfl⟩
abbrev main_v28_5 : Ref sig .tc := ⟨.hbm, 57, rfl⟩
abbrev main_v28_6 : Ref sig .tc := ⟨.hbm, 58, rfl⟩
abbrev main_v28_7 : Ref sig .tc := ⟨.hbm, 59, rfl⟩
abbrev main_v28_8 : Ref sig .tc := ⟨.hbm, 60, rfl⟩
abbrev main_v28_9 : Ref sig .tc := ⟨.hbm, 61, rfl⟩
abbrev main_v28_10 : Ref sig .tc := ⟨.hbm, 62, rfl⟩
abbrev main_v28_11 : Ref sig .tc := ⟨.hbm, 63, rfl⟩
abbrev main_v28_12 : Ref sig .tc := ⟨.hbm, 64, rfl⟩
abbrev main_v28_13 : Ref sig .tc := ⟨.hbm, 65, rfl⟩
abbrev main_v28_14 : Ref sig .tc := ⟨.hbm, 66, rfl⟩
abbrev main_v28_15 : Ref sig .tc := ⟨.hbm, 67, rfl⟩
abbrev main_v28_16 : Ref sig .tc := ⟨.hbm, 68, rfl⟩
abbrev main_v28_17 : Ref sig .tc := ⟨.hbm, 69, rfl⟩
abbrev main_v28_18 : Ref sig .tc := ⟨.hbm, 70, rfl⟩
abbrev main_v28_19 : Ref sig .tc := ⟨.hbm, 71, rfl⟩
abbrev main_v28_20 : Ref sig .tc := ⟨.hbm, 72, rfl⟩
abbrev main_while0c_c_31 : Ref sig .tc := ⟨.hbm, 73, rfl⟩
abbrev main_while0c_v33 : Ref sig .tc := ⟨.hbm, 74, rfl⟩
abbrev main_while0b_call0_v0 : Ref sig .tc := ⟨.hbm, 75, rfl⟩
abbrev main_while0b_v33 : Ref sig .tc := ⟨.hbm, 76, rfl⟩
abbrev main_while0b_v34 : Ref sig .tc := ⟨.hbm, 77, rfl⟩
abbrev main_while0b_v35 : Ref sig .tc := ⟨.hbm, 78, rfl⟩
abbrev main_while0b_v36 : Ref sig .tc := ⟨.hbm, 79, rfl⟩
abbrev main_while0b_v37 : Ref sig .tc := ⟨.hbm, 80, rfl⟩
abbrev main_while0b_v38 : Ref sig .tc := ⟨.hbm, 81, rfl⟩
abbrev main_while0b_v39 : Ref sig .tc := ⟨.hbm, 82, rfl⟩
abbrev main_while0b_v40 : Ref sig .tc := ⟨.hbm, 83, rfl⟩
abbrev main_while0b_v41 : Ref sig .tc := ⟨.hbm, 84, rfl⟩
abbrev main_while0b_v42 : Ref sig .tc := ⟨.hbm, 85, rfl⟩
abbrev main_while0b_v43 : Ref sig .tc := ⟨.hbm, 86, rfl⟩
abbrev main_while0b_v44 : Ref sig .tc := ⟨.hbm, 87, rfl⟩
abbrev main_while0b_v45 : Ref sig .tc := ⟨.hbm, 88, rfl⟩
abbrev main_while0b_v46 : Ref sig .tc := ⟨.hbm, 89, rfl⟩
abbrev main_while0b_v47 : Ref sig .tc := ⟨.hbm, 90, rfl⟩
abbrev main_while0b_cst_31 : Ref sig .tc := ⟨.hbm, 91, rfl⟩
abbrev main_while0b_v48 : Ref sig .tc := ⟨.hbm, 92, rfl⟩
abbrev main_while0b_v49 : Ref sig .tc := ⟨.hbm, 93, rfl⟩
abbrev main_while0b_v50 : Ref sig .tc := ⟨.hbm, 94, rfl⟩
abbrev main_while0b_cst_32 : Ref sig .tc := ⟨.hbm, 95, rfl⟩
abbrev main_while0b_call1_v0 : Ref sig .tc := ⟨.hbm, 96, rfl⟩
abbrev main_while0b_call1_v1 : Ref sig .tc := ⟨.hbm, 97, rfl⟩
abbrev main_while0b_v51 : Ref sig .tc := ⟨.hbm, 98, rfl⟩
abbrev main_while0b_cst_33 : Ref sig .tc := ⟨.hbm, 99, rfl⟩
abbrev main_while0b_v52 : Ref sig .tc := ⟨.hbm, 100, rfl⟩
abbrev main_while0b_cst_34 : Ref sig .tc := ⟨.hbm, 101, rfl⟩
abbrev main_while0b_v53 : Ref sig .tc := ⟨.hbm, 102, rfl⟩
abbrev main_while0b_v54 : Ref sig .tc := ⟨.hbm, 103, rfl⟩
abbrev main_while0b_v55 : Ref sig .tc := ⟨.hbm, 104, rfl⟩
abbrev main_while0b_v56 : Ref sig .tc := ⟨.hbm, 105, rfl⟩
abbrev main_while0b_v57 : Ref sig .tc := ⟨.hbm, 106, rfl⟩
abbrev main_while0b_v58 : Ref sig .tc := ⟨.hbm, 107, rfl⟩
abbrev main_while0b_cst_35 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_call2_c : Ref sig .tc := ⟨.hbm, 114, rfl⟩
abbrev main_while0b_call2_v0 : Ref sig .tc := ⟨.hbm, 115, rfl⟩
abbrev main_while0b_call2_v1 : Ref sig .tc := ⟨.hbm, 116, rfl⟩
abbrev main_while0b_call2_c_0 : Ref sig .tc := ⟨.hbm, 117, rfl⟩
abbrev main_while0b_call2_v2 : Ref sig .tc := ⟨.hbm, 118, rfl⟩
abbrev main_while0b_call2_v3 : Ref sig .tc := ⟨.hbm, 119, rfl⟩
abbrev main_while0b_call2_v4 : Ref sig .tc := ⟨.hbm, 120, rfl⟩
abbrev main_while0b_call2_v5 : Ref sig .tc := ⟨.hbm, 121, rfl⟩
abbrev main_while0b_call2_v6 : Ref sig .tc := ⟨.hbm, 122, rfl⟩
abbrev main_while0b_call2_v7 : Ref sig .tc := ⟨.hbm, 123, rfl⟩
abbrev main_while0b_call2_v8 : Ref sig .tc := ⟨.hbm, 124, rfl⟩
abbrev main_while0b_call2_v9 : Ref sig .tc := ⟨.hbm, 125, rfl⟩
abbrev main_while0b_call2_v10 : Ref sig .tc := ⟨.hbm, 126, rfl⟩
abbrev main_while0b_call2_call0_v0 : Ref sig .tc := ⟨.hbm, 127, rfl⟩
abbrev main_while0b_call2_call0_c : Ref sig .tc := ⟨.hbm, 128, rfl⟩
abbrev main_while0b_call2_call0_v1 : Ref sig .tc := ⟨.hbm, 129, rfl⟩
abbrev main_while0b_call2_call0_v2 : Ref sig .tc := ⟨.hbm, 130, rfl⟩
abbrev main_while0b_call2_call0_v3 : Ref sig .tc := ⟨.hbm, 131, rfl⟩
abbrev main_while0b_call2_call0_v4 : Ref sig .tc := ⟨.hbm, 132, rfl⟩
abbrev main_while0b_call2_call0_v5 : Ref sig .tc := ⟨.hbm, 133, rfl⟩
abbrev main_while0b_call2_call0_v6 : Ref sig .tc := ⟨.hbm, 134, rfl⟩
abbrev main_while0b_call2_call0_c_0 : Ref sig .tc := ⟨.hbm, 135, rfl⟩
abbrev main_while0b_call2_call0_v7 : Ref sig .tc := ⟨.hbm, 136, rfl⟩
abbrev main_while0b_call2_call0_v8 : Ref sig .tc := ⟨.hbm, 137, rfl⟩
abbrev main_while0b_call2_call0_c_1 : Ref sig .tc := ⟨.hbm, 138, rfl⟩
abbrev main_while0b_call2_call0_v9 : Ref sig .tc := ⟨.hbm, 139, rfl⟩
abbrev main_while0b_call2_call0_v10 : Ref sig .tc := ⟨.hbm, 140, rfl⟩
abbrev main_while0b_call2_call0_v11 : Ref sig .tc := ⟨.hbm, 141, rfl⟩
abbrev main_while0b_call2_call0_v12 : Ref sig .tc := ⟨.hbm, 142, rfl⟩
abbrev main_while0b_call2_call0_v13 : Ref sig .tc := ⟨.hbm, 143, rfl⟩
abbrev main_while0b_call2_call0_c_2 : Ref sig .tc := ⟨.hbm, 144, rfl⟩
abbrev main_while0b_call2_call0_v14 : Ref sig .tc := ⟨.hbm, 145, rfl⟩
abbrev main_while0b_call2_call0_v15 : Ref sig .tc := ⟨.hbm, 146, rfl⟩
abbrev main_while0b_call2_call0_c_3 : Ref sig .tc := ⟨.hbm, 147, rfl⟩
abbrev main_while0b_call2_call0_v16 : Ref sig .tc := ⟨.hbm, 148, rfl⟩
abbrev main_while0b_call2_call0_v17 : Ref sig .tc := ⟨.hbm, 149, rfl⟩
abbrev main_while0b_call2_call0_v18 : Ref sig .tc := ⟨.hbm, 150, rfl⟩
abbrev main_while0b_call2_call0_v19 : Ref sig .tc := ⟨.hbm, 151, rfl⟩
abbrev main_while0b_call2_call0_v20 : Ref sig .tc := ⟨.hbm, 152, rfl⟩
abbrev main_while0b_call2_call0_c_4 : Ref sig .tc := ⟨.hbm, 153, rfl⟩
abbrev main_while0b_call2_call0_v21 : Ref sig .tc := ⟨.hbm, 154, rfl⟩
abbrev main_while0b_call2_call0_v22 : Ref sig .tc := ⟨.hbm, 155, rfl⟩
abbrev main_while0b_call2_call0_c_5 : Ref sig .tc := ⟨.hbm, 156, rfl⟩
abbrev main_while0b_call2_call0_v23 : Ref sig .tc := ⟨.hbm, 157, rfl⟩
abbrev main_while0b_call2_call0_v24 : Ref sig .tc := ⟨.hbm, 158, rfl⟩
abbrev main_while0b_call2_call0_v25 : Ref sig .tc := ⟨.hbm, 159, rfl⟩
abbrev main_while0b_call2_call0_v26 : Ref sig .tc := ⟨.hbm, 160, rfl⟩
abbrev main_while0b_call2_call0_v27 : Ref sig .tc := ⟨.hbm, 161, rfl⟩
abbrev main_while0b_call2_call0_c_6 : Ref sig .tc := ⟨.hbm, 162, rfl⟩
abbrev main_while0b_call2_call0_v28 : Ref sig .tc := ⟨.hbm, 163, rfl⟩
abbrev main_while0b_call2_call0_v29 : Ref sig .tc := ⟨.hbm, 164, rfl⟩
abbrev main_while0b_call2_call0_c_7 : Ref sig .tc := ⟨.hbm, 165, rfl⟩
abbrev main_while0b_call2_call0_v30 : Ref sig .tc := ⟨.hbm, 166, rfl⟩
abbrev main_while0b_call2_call0_v31 : Ref sig .tc := ⟨.hbm, 167, rfl⟩
abbrev main_while0b_call2_call0_v32 : Ref sig .tc := ⟨.hbm, 168, rfl⟩
abbrev main_while0b_call2_call0_v33 : Ref sig .tc := ⟨.hbm, 169, rfl⟩
abbrev main_while0b_call2_call0_v34 : Ref sig .tc := ⟨.hbm, 170, rfl⟩
abbrev main_while0b_call2_call0_v35 : Ref sig .tc := ⟨.hbm, 171, rfl⟩
abbrev main_while0b_call2_call0_v36 : Ref sig .tc := ⟨.hbm, 172, rfl⟩
abbrev main_while0b_call2_call0_v37 : Ref sig .tc := ⟨.hbm, 173, rfl⟩
abbrev main_while0b_call2_call0_c_8 : Ref sig .tc := ⟨.hbm, 174, rfl⟩
abbrev main_while0b_call2_call0_v38 : Ref sig .tc := ⟨.hbm, 175, rfl⟩
abbrev main_while0b_call2_call0_v39 : Ref sig .tc := ⟨.hbm, 176, rfl⟩
abbrev main_while0b_call2_call0_v40 : Ref sig .tc := ⟨.hbm, 177, rfl⟩
abbrev main_while0b_call2_call0_c_9 : Ref sig .tc := ⟨.hbm, 178, rfl⟩
abbrev main_while0b_call2_call0_v41 : Ref sig .tc := ⟨.hbm, 179, rfl⟩
abbrev main_while0b_call2_call0_v42 : Ref sig .tc := ⟨.hbm, 180, rfl⟩
abbrev main_while0b_call2_call0_c_10 : Ref sig .tc := ⟨.hbm, 181, rfl⟩
abbrev main_while0b_call2_call0_v43 : Ref sig .tc := ⟨.hbm, 182, rfl⟩
abbrev main_while0b_call2_call0_v44 : Ref sig .tc := ⟨.hbm, 183, rfl⟩
abbrev main_while0b_call2_call0_v45 : Ref sig .tc := ⟨.hbm, 184, rfl⟩
abbrev main_while0b_call2_call0_v46 : Ref sig .tc := ⟨.hbm, 185, rfl⟩
abbrev main_while0b_call2_call0_v47 : Ref sig .tc := ⟨.hbm, 186, rfl⟩
abbrev main_while0b_call2_call0_c_11 : Ref sig .tc := ⟨.hbm, 187, rfl⟩
abbrev main_while0b_call2_call0_v48 : Ref sig .tc := ⟨.hbm, 188, rfl⟩
abbrev main_while0b_call2_call0_v49 : Ref sig .tc := ⟨.hbm, 189, rfl⟩
abbrev main_while0b_call2_call0_c_12 : Ref sig .tc := ⟨.hbm, 190, rfl⟩
abbrev main_while0b_call2_call0_v50 : Ref sig .tc := ⟨.hbm, 191, rfl⟩
abbrev main_while0b_call2_call0_v51 : Ref sig .tc := ⟨.hbm, 192, rfl⟩
abbrev main_while0b_call2_call0_v52 : Ref sig .tc := ⟨.hbm, 193, rfl⟩
abbrev main_while0b_call2_call0_v53 : Ref sig .tc := ⟨.hbm, 194, rfl⟩
abbrev main_while0b_call2_call0_v54 : Ref sig .tc := ⟨.hbm, 195, rfl⟩
abbrev main_while0b_call2_call0_c_13 : Ref sig .tc := ⟨.hbm, 196, rfl⟩
abbrev main_while0b_call2_call0_v55 : Ref sig .tc := ⟨.hbm, 197, rfl⟩
abbrev main_while0b_call2_call0_v56 : Ref sig .tc := ⟨.hbm, 198, rfl⟩
abbrev main_while0b_call2_call0_c_14 : Ref sig .tc := ⟨.hbm, 199, rfl⟩
abbrev main_while0b_call2_call0_v57 : Ref sig .tc := ⟨.hbm, 200, rfl⟩
abbrev main_while0b_call2_call0_v58 : Ref sig .tc := ⟨.hbm, 201, rfl⟩
abbrev main_while0b_call2_call0_v59 : Ref sig .tc := ⟨.hbm, 202, rfl⟩
abbrev main_while0b_call2_call0_v60 : Ref sig .tc := ⟨.hbm, 203, rfl⟩
abbrev main_while0b_call2_call0_v61 : Ref sig .tc := ⟨.hbm, 204, rfl⟩
abbrev main_while0b_call2_call0_c_15 : Ref sig .tc := ⟨.hbm, 205, rfl⟩
abbrev main_while0b_call2_call0_v62 : Ref sig .tc := ⟨.hbm, 206, rfl⟩
abbrev main_while0b_call2_call0_v63 : Ref sig .tc := ⟨.hbm, 207, rfl⟩
abbrev main_while0b_call2_call0_c_16 : Ref sig .tc := ⟨.hbm, 208, rfl⟩
abbrev main_while0b_call2_call0_v64 : Ref sig .tc := ⟨.hbm, 209, rfl⟩
abbrev main_while0b_call2_call0_v65 : Ref sig .tc := ⟨.hbm, 210, rfl⟩
abbrev main_while0b_call2_call0_v66 : Ref sig .tc := ⟨.hbm, 211, rfl⟩
abbrev main_while0b_call2_call0_v67 : Ref sig .tc := ⟨.hbm, 212, rfl⟩
abbrev main_while0b_call2_call0_v68 : Ref sig .tc := ⟨.hbm, 213, rfl⟩
abbrev main_while0b_call2_call0_v69 : Ref sig .tc := ⟨.hbm, 214, rfl⟩
abbrev main_while0b_call2_call0_v70 : Ref sig .tc := ⟨.hbm, 215, rfl⟩
abbrev main_while0b_call2_call0_v71 : Ref sig .tc := ⟨.hbm, 216, rfl⟩
abbrev main_while0b_call2_call0_c_17 : Ref sig .tc := ⟨.hbm, 217, rfl⟩
abbrev main_while0b_call2_call0_v72 : Ref sig .tc := ⟨.hbm, 218, rfl⟩
abbrev main_while0b_call2_call0_v73 : Ref sig .tc := ⟨.hbm, 219, rfl⟩
abbrev main_while0b_call2_call0_v74 : Ref sig .tc := ⟨.hbm, 220, rfl⟩
abbrev main_while0b_call2_call0_c_18 : Ref sig .tc := ⟨.hbm, 221, rfl⟩
abbrev main_while0b_call2_call0_v75 : Ref sig .tc := ⟨.hbm, 222, rfl⟩
abbrev main_while0b_call2_call0_v76 : Ref sig .tc := ⟨.hbm, 223, rfl⟩
abbrev main_while0b_call2_call0_c_19 : Ref sig .tc := ⟨.hbm, 224, rfl⟩
abbrev main_while0b_call2_call0_v77 : Ref sig .tc := ⟨.hbm, 225, rfl⟩
abbrev main_while0b_call2_call0_v78 : Ref sig .tc := ⟨.hbm, 226, rfl⟩
abbrev main_while0b_call2_call0_v79 : Ref sig .tc := ⟨.hbm, 227, rfl⟩
abbrev main_while0b_call2_call0_v80 : Ref sig .tc := ⟨.hbm, 228, rfl⟩
abbrev main_while0b_call2_call0_v81 : Ref sig .tc := ⟨.hbm, 229, rfl⟩
abbrev main_while0b_call2_call0_c_20 : Ref sig .tc := ⟨.hbm, 230, rfl⟩
abbrev main_while0b_call2_call0_v82 : Ref sig .tc := ⟨.hbm, 231, rfl⟩
abbrev main_while0b_call2_call0_v83 : Ref sig .tc := ⟨.hbm, 232, rfl⟩
abbrev main_while0b_call2_call0_c_21 : Ref sig .tc := ⟨.hbm, 233, rfl⟩
abbrev main_while0b_call2_call0_v84 : Ref sig .tc := ⟨.hbm, 234, rfl⟩
abbrev main_while0b_call2_call0_v85 : Ref sig .tc := ⟨.hbm, 235, rfl⟩
abbrev main_while0b_call2_call0_v86 : Ref sig .tc := ⟨.hbm, 236, rfl⟩
abbrev main_while0b_call2_call0_v87 : Ref sig .tc := ⟨.hbm, 237, rfl⟩
abbrev main_while0b_call2_call0_v88 : Ref sig .tc := ⟨.hbm, 238, rfl⟩
abbrev main_while0b_call2_call0_c_22 : Ref sig .tc := ⟨.hbm, 239, rfl⟩
abbrev main_while0b_call2_call0_v89 : Ref sig .tc := ⟨.hbm, 240, rfl⟩
abbrev main_while0b_call2_call0_v90 : Ref sig .tc := ⟨.hbm, 241, rfl⟩
abbrev main_while0b_call2_call0_c_23 : Ref sig .tc := ⟨.hbm, 242, rfl⟩
abbrev main_while0b_call2_call0_v91 : Ref sig .tc := ⟨.hbm, 243, rfl⟩
abbrev main_while0b_call2_call0_v92 : Ref sig .tc := ⟨.hbm, 244, rfl⟩
abbrev main_while0b_call2_call0_v93 : Ref sig .tc := ⟨.hbm, 245, rfl⟩
abbrev main_while0b_call2_call0_v94 : Ref sig .tc := ⟨.hbm, 246, rfl⟩
abbrev main_while0b_call2_call0_v95 : Ref sig .tc := ⟨.hbm, 247, rfl⟩
abbrev main_while0b_call2_call0_c_24 : Ref sig .tc := ⟨.hbm, 248, rfl⟩
abbrev main_while0b_call2_call0_v96 : Ref sig .tc := ⟨.hbm, 249, rfl⟩
abbrev main_while0b_call2_call0_v97 : Ref sig .tc := ⟨.hbm, 250, rfl⟩
abbrev main_while0b_call2_call0_c_25 : Ref sig .tc := ⟨.hbm, 251, rfl⟩
abbrev main_while0b_call2_call0_v98 : Ref sig .tc := ⟨.hbm, 252, rfl⟩
abbrev main_while0b_call2_call0_v99 : Ref sig .tc := ⟨.hbm, 253, rfl⟩
abbrev main_while0b_call2_call0_v100 : Ref sig .tc := ⟨.hbm, 254, rfl⟩
abbrev main_while0b_call2_call0_v101 : Ref sig .tc := ⟨.hbm, 255, rfl⟩
abbrev main_while0b_call2_call0_v102 : Ref sig .tc := ⟨.hbm, 256, rfl⟩
abbrev main_while0b_call2_call0_v103 : Ref sig .tc := ⟨.hbm, 257, rfl⟩
abbrev main_while0b_call2_call0_v104 : Ref sig .tc := ⟨.hbm, 258, rfl⟩
abbrev main_while0b_call2_call0_v105 : Ref sig .tc := ⟨.hbm, 259, rfl⟩
abbrev main_while0b_call2_call0_c_26 : Ref sig .tc := ⟨.hbm, 260, rfl⟩
abbrev main_while0b_call2_call0_v106 : Ref sig .tc := ⟨.hbm, 261, rfl⟩
abbrev main_while0b_call2_call0_v107 : Ref sig .tc := ⟨.hbm, 262, rfl⟩
abbrev main_while0b_call2_call0_v108 : Ref sig .tc := ⟨.hbm, 263, rfl⟩
abbrev main_while0b_call2_call0_c_27 : Ref sig .tc := ⟨.hbm, 264, rfl⟩
abbrev main_while0b_call2_call0_v109 : Ref sig .tc := ⟨.hbm, 265, rfl⟩
abbrev main_while0b_call2_call0_v110 : Ref sig .tc := ⟨.hbm, 266, rfl⟩
abbrev main_while0b_call2_call0_c_28 : Ref sig .tc := ⟨.hbm, 267, rfl⟩
abbrev main_while0b_call2_call0_v111 : Ref sig .tc := ⟨.hbm, 268, rfl⟩
abbrev main_while0b_call2_call0_v112 : Ref sig .tc := ⟨.hbm, 269, rfl⟩
abbrev main_while0b_call2_call0_v113 : Ref sig .tc := ⟨.hbm, 270, rfl⟩
abbrev main_while0b_call2_call0_v114 : Ref sig .tc := ⟨.hbm, 271, rfl⟩
abbrev main_while0b_call2_call0_v115 : Ref sig .tc := ⟨.hbm, 272, rfl⟩
abbrev main_while0b_call2_call0_c_29 : Ref sig .tc := ⟨.hbm, 273, rfl⟩
abbrev main_while0b_call2_call0_v116 : Ref sig .tc := ⟨.hbm, 274, rfl⟩
abbrev main_while0b_call2_call0_v117 : Ref sig .tc := ⟨.hbm, 275, rfl⟩
abbrev main_while0b_call2_call0_c_30 : Ref sig .tc := ⟨.hbm, 276, rfl⟩
abbrev main_while0b_call2_call0_v118 : Ref sig .tc := ⟨.hbm, 277, rfl⟩
abbrev main_while0b_call2_call0_v119 : Ref sig .tc := ⟨.hbm, 278, rfl⟩
abbrev main_while0b_call2_call0_v120 : Ref sig .tc := ⟨.hbm, 279, rfl⟩
abbrev main_while0b_call2_call0_v121 : Ref sig .tc := ⟨.hbm, 280, rfl⟩
abbrev main_while0b_call2_call0_v122 : Ref sig .tc := ⟨.hbm, 281, rfl⟩
abbrev main_while0b_call2_call0_c_31 : Ref sig .tc := ⟨.hbm, 282, rfl⟩
abbrev main_while0b_call2_call0_v123 : Ref sig .tc := ⟨.hbm, 283, rfl⟩
abbrev main_while0b_call2_call0_v124 : Ref sig .tc := ⟨.hbm, 284, rfl⟩
abbrev main_while0b_call2_call0_c_32 : Ref sig .tc := ⟨.hbm, 285, rfl⟩
abbrev main_while0b_call2_call0_v125 : Ref sig .tc := ⟨.hbm, 286, rfl⟩
abbrev main_while0b_call2_call0_v126 : Ref sig .tc := ⟨.hbm, 287, rfl⟩
abbrev main_while0b_call2_call0_v127 : Ref sig .tc := ⟨.hbm, 288, rfl⟩
abbrev main_while0b_call2_call0_v128 : Ref sig .tc := ⟨.hbm, 289, rfl⟩
abbrev main_while0b_call2_call0_v129 : Ref sig .tc := ⟨.hbm, 290, rfl⟩
abbrev main_while0b_call2_call0_c_33 : Ref sig .tc := ⟨.hbm, 291, rfl⟩
abbrev main_while0b_call2_call0_v130 : Ref sig .tc := ⟨.hbm, 292, rfl⟩
abbrev main_while0b_call2_call0_v131 : Ref sig .tc := ⟨.hbm, 293, rfl⟩
abbrev main_while0b_call2_call0_c_34 : Ref sig .tc := ⟨.hbm, 294, rfl⟩
abbrev main_while0b_call2_call0_v132 : Ref sig .tc := ⟨.hbm, 295, rfl⟩
abbrev main_while0b_call2_call0_v133 : Ref sig .tc := ⟨.hbm, 296, rfl⟩
abbrev main_while0b_call2_call0_v134 : Ref sig .tc := ⟨.hbm, 297, rfl⟩
abbrev main_while0b_call2_call0_v135 : Ref sig .tc := ⟨.hbm, 298, rfl⟩
abbrev main_while0b_call2_call0_v136 : Ref sig .tc := ⟨.hbm, 299, rfl⟩
abbrev main_while0b_call2_call0_v137 : Ref sig .tc := ⟨.hbm, 300, rfl⟩
abbrev main_while0b_call2_call0_v138 : Ref sig .tc := ⟨.hbm, 301, rfl⟩
abbrev main_while0b_call2_call0_v139 : Ref sig .tc := ⟨.hbm, 302, rfl⟩
abbrev main_while0b_call2_call0_c_35 : Ref sig .tc := ⟨.hbm, 303, rfl⟩
abbrev main_while0b_call2_call0_v140 : Ref sig .tc := ⟨.hbm, 304, rfl⟩
abbrev main_while0b_call2_call0_v141 : Ref sig .tc := ⟨.hbm, 305, rfl⟩
abbrev main_while0b_call2_call0_v142 : Ref sig .tc := ⟨.hbm, 306, rfl⟩
abbrev main_while0b_call2_call0_c_36 : Ref sig .tc := ⟨.hbm, 307, rfl⟩
abbrev main_while0b_call2_call0_v143 : Ref sig .tc := ⟨.hbm, 308, rfl⟩
abbrev main_while0b_call2_call0_v144 : Ref sig .tc := ⟨.hbm, 309, rfl⟩
abbrev main_while0b_call2_call0_c_37 : Ref sig .tc := ⟨.hbm, 310, rfl⟩
abbrev main_while0b_call2_call0_v145 : Ref sig .tc := ⟨.hbm, 311, rfl⟩
abbrev main_while0b_call2_call0_v146 : Ref sig .tc := ⟨.hbm, 312, rfl⟩
abbrev main_while0b_call2_call0_v147 : Ref sig .tc := ⟨.hbm, 313, rfl⟩
abbrev main_while0b_call2_call0_v148 : Ref sig .tc := ⟨.hbm, 314, rfl⟩
abbrev main_while0b_call2_call0_v149 : Ref sig .tc := ⟨.hbm, 315, rfl⟩
abbrev main_while0b_call2_call0_c_38 : Ref sig .tc := ⟨.hbm, 316, rfl⟩
abbrev main_while0b_call2_call0_v150 : Ref sig .tc := ⟨.hbm, 317, rfl⟩
abbrev main_while0b_call2_call0_v151 : Ref sig .tc := ⟨.hbm, 318, rfl⟩
abbrev main_while0b_call2_call0_c_39 : Ref sig .tc := ⟨.hbm, 319, rfl⟩
abbrev main_while0b_call2_call0_v152 : Ref sig .tc := ⟨.hbm, 320, rfl⟩
abbrev main_while0b_call2_call0_v153 : Ref sig .tc := ⟨.hbm, 321, rfl⟩
abbrev main_while0b_call2_call0_v154 : Ref sig .tc := ⟨.hbm, 322, rfl⟩
abbrev main_while0b_call2_call0_v155 : Ref sig .tc := ⟨.hbm, 323, rfl⟩
abbrev main_while0b_call2_call0_v156 : Ref sig .tc := ⟨.hbm, 324, rfl⟩
abbrev main_while0b_call2_call0_c_40 : Ref sig .tc := ⟨.hbm, 325, rfl⟩
abbrev main_while0b_call2_call0_v157 : Ref sig .tc := ⟨.hbm, 326, rfl⟩
abbrev main_while0b_call2_call0_v158 : Ref sig .tc := ⟨.hbm, 327, rfl⟩
abbrev main_while0b_call2_call0_c_41 : Ref sig .tc := ⟨.hbm, 328, rfl⟩
abbrev main_while0b_call2_call0_v159 : Ref sig .tc := ⟨.hbm, 329, rfl⟩
abbrev main_while0b_call2_call0_v160 : Ref sig .tc := ⟨.hbm, 330, rfl⟩
abbrev main_while0b_call2_call0_v161 : Ref sig .tc := ⟨.hbm, 331, rfl⟩
abbrev main_while0b_call2_call0_v162 : Ref sig .tc := ⟨.hbm, 332, rfl⟩
abbrev main_while0b_call2_call0_v163 : Ref sig .tc := ⟨.hbm, 333, rfl⟩
abbrev main_while0b_call2_call0_c_42 : Ref sig .tc := ⟨.hbm, 334, rfl⟩
abbrev main_while0b_call2_call0_v164 : Ref sig .tc := ⟨.hbm, 335, rfl⟩
abbrev main_while0b_call2_call0_v165 : Ref sig .tc := ⟨.hbm, 336, rfl⟩
abbrev main_while0b_call2_call0_c_43 : Ref sig .tc := ⟨.hbm, 337, rfl⟩
abbrev main_while0b_call2_call0_v166 : Ref sig .tc := ⟨.hbm, 338, rfl⟩
abbrev main_while0b_call2_call0_v167 : Ref sig .tc := ⟨.hbm, 339, rfl⟩
abbrev main_while0b_call2_call0_v168 : Ref sig .tc := ⟨.hbm, 340, rfl⟩
abbrev main_while0b_call2_call0_v169 : Ref sig .tc := ⟨.hbm, 341, rfl⟩
abbrev main_while0b_call2_call0_v170 : Ref sig .tc := ⟨.hbm, 342, rfl⟩
abbrev main_while0b_call2_v11_0 : Ref sig .tc := ⟨.hbm, 343, rfl⟩
abbrev main_while0b_call2_call0_v172 : Ref sig .tc := ⟨.hbm, 344, rfl⟩
abbrev main_while0b_call2_call0_v173 : Ref sig .tc := ⟨.hbm, 345, rfl⟩
abbrev main_while0b_call2_call0_c_44 : Ref sig .tc := ⟨.hbm, 346, rfl⟩
abbrev main_while0b_call2_call0_v174 : Ref sig .tc := ⟨.hbm, 347, rfl⟩
abbrev main_while0b_call2_v11_1 : Ref sig .tc := ⟨.hbm, 348, rfl⟩
abbrev main_while0b_v64 : Ref sig .tc := ⟨.hbm, 349, rfl⟩
abbrev main_while0b_cst_36 : Ref sig .tc := ⟨.hbm, 350, rfl⟩
abbrev main_while0b_v65 : Ref sig .tc := ⟨.hbm, 351, rfl⟩
abbrev main_while0b_v66 : Ref sig .tc := ⟨.hbm, 352, rfl⟩
abbrev main_while0b_v67 : Ref sig .tc := ⟨.hbm, 353, rfl⟩
abbrev main_while0b_call3_cst : Ref sig .tc := ⟨.hbm, 354, rfl⟩
abbrev main_while0b_call3_cst_0 : Ref sig .tc := ⟨.hbm, 355, rfl⟩
abbrev main_while0b_call3_call0_v0 : Ref sig .tc := ⟨.hbm, 356, rfl⟩
abbrev main_while0b_call3_call0_v1 : Ref sig .tc := ⟨.hbm, 357, rfl⟩
abbrev main_while0b_call3_call0_v2 : Ref sig .tc := ⟨.hbm, 358, rfl⟩
abbrev main_while0b_call3_call0_v3 : Ref sig .tc := ⟨.hbm, 359, rfl⟩
abbrev main_while0b_call3_call0_v4 : Ref sig .tc := ⟨.hbm, 360, rfl⟩
abbrev main_while0b_call3_call0_v5 : Ref sig .tc := ⟨.hbm, 361, rfl⟩
abbrev main_while0b_call3_call0_v6 : Ref sig .tc := ⟨.hbm, 362, rfl⟩
abbrev main_while0b_call3_call0_v7 : Ref sig .tc := ⟨.hbm, 363, rfl⟩
abbrev main_while0b_call3_call0_v8 : Ref sig .tc := ⟨.hbm, 364, rfl⟩
abbrev main_while0b_call3_call0_c : Ref sig .tc := ⟨.hbm, 365, rfl⟩
abbrev main_while0b_call3_call0_v9 : Ref sig .tc := ⟨.hbm, 366, rfl⟩
abbrev main_while0b_call3_call0_v10 : Ref sig .tc := ⟨.hbm, 367, rfl⟩
abbrev main_while0b_call3_call0_c_0 : Ref sig .tc := ⟨.hbm, 368, rfl⟩
abbrev main_while0b_call3_call0_v11 : Ref sig .tc := ⟨.hbm, 369, rfl⟩
abbrev main_while0b_call3_call0_v12 : Ref sig .tc := ⟨.hbm, 370, rfl⟩
abbrev main_while0b_call3_call0_v13 : Ref sig .tc := ⟨.hbm, 371, rfl⟩
abbrev main_while0b_call3_call0_c_1 : Ref sig .tc := ⟨.hbm, 372, rfl⟩
abbrev main_while0b_call3_call0_v14 : Ref sig .tc := ⟨.hbm, 373, rfl⟩
abbrev main_while0b_call3_call0_v15 : Ref sig .tc := ⟨.hbm, 374, rfl⟩
abbrev main_while0b_call3_call0_v16 : Ref sig .tc := ⟨.hbm, 375, rfl⟩
abbrev main_while0b_call3_call0_v17 : Ref sig .tc := ⟨.hbm, 376, rfl⟩
abbrev main_while0b_call3_call0_call0_v0 : Ref sig .tc := ⟨.hbm, 377, rfl⟩
abbrev main_while0b_call3_call0_call0_c : Ref sig .tc := ⟨.hbm, 378, rfl⟩
abbrev main_while0b_call3_call0_call0_v1 : Ref sig .tc := ⟨.hbm, 379, rfl⟩
abbrev main_while0b_call3_call0_call0_v2 : Ref sig .tc := ⟨.hbm, 380, rfl⟩
abbrev main_while0b_call3_call0_call0_v3 : Ref sig .tc := ⟨.hbm, 381, rfl⟩
abbrev main_while0b_call3_call0_call0_v4 : Ref sig .tc := ⟨.hbm, 382, rfl⟩
abbrev main_while0b_call3_call0_call0_v5 : Ref sig .tc := ⟨.hbm, 383, rfl⟩
abbrev main_while0b_call3_call0_call0_v6 : Ref sig .tc := ⟨.hbm, 384, rfl⟩
abbrev main_while0b_call3_call0_call0_c_0 : Ref sig .tc := ⟨.hbm, 385, rfl⟩
abbrev main_while0b_call3_call0_call0_v7 : Ref sig .tc := ⟨.hbm, 386, rfl⟩
abbrev main_while0b_call3_call0_call0_v8 : Ref sig .tc := ⟨.hbm, 387, rfl⟩
abbrev main_while0b_call3_call0_call0_c_1 : Ref sig .tc := ⟨.hbm, 388, rfl⟩
abbrev main_while0b_call3_call0_call0_v9 : Ref sig .tc := ⟨.hbm, 389, rfl⟩
abbrev main_while0b_call3_call0_call0_v10 : Ref sig .tc := ⟨.hbm, 390, rfl⟩
abbrev main_while0b_call3_call0_call0_v11 : Ref sig .tc := ⟨.hbm, 391, rfl⟩
abbrev main_while0b_call3_call0_call0_v12 : Ref sig .tc := ⟨.hbm, 392, rfl⟩
abbrev main_while0b_call3_call0_call0_v13 : Ref sig .tc := ⟨.hbm, 393, rfl⟩
abbrev main_while0b_call3_call0_call0_c_2 : Ref sig .tc := ⟨.hbm, 394, rfl⟩
abbrev main_while0b_call3_call0_call0_v14 : Ref sig .tc := ⟨.hbm, 395, rfl⟩
abbrev main_while0b_call3_call0_call0_v15 : Ref sig .tc := ⟨.hbm, 396, rfl⟩
abbrev main_while0b_call3_call0_call0_c_3 : Ref sig .tc := ⟨.hbm, 397, rfl⟩
abbrev main_while0b_call3_call0_call0_v16 : Ref sig .tc := ⟨.hbm, 398, rfl⟩
abbrev main_while0b_call3_call0_call0_v17 : Ref sig .tc := ⟨.hbm, 399, rfl⟩
abbrev main_while0b_call3_call0_call0_v18 : Ref sig .tc := ⟨.hbm, 400, rfl⟩
abbrev main_while0b_call3_call0_call0_v19 : Ref sig .tc := ⟨.hbm, 401, rfl⟩
abbrev main_while0b_call3_call0_call0_v20 : Ref sig .tc := ⟨.hbm, 402, rfl⟩
abbrev main_while0b_call3_call0_call0_c_4 : Ref sig .tc := ⟨.hbm, 403, rfl⟩
abbrev main_while0b_call3_call0_call0_v21 : Ref sig .tc := ⟨.hbm, 404, rfl⟩
abbrev main_while0b_call3_call0_call0_v22 : Ref sig .tc := ⟨.hbm, 405, rfl⟩
abbrev main_while0b_call3_call0_call0_c_5 : Ref sig .tc := ⟨.hbm, 406, rfl⟩
abbrev main_while0b_call3_call0_call0_v23 : Ref sig .tc := ⟨.hbm, 407, rfl⟩
abbrev main_while0b_call3_call0_call0_v24 : Ref sig .tc := ⟨.hbm, 408, rfl⟩
abbrev main_while0b_call3_call0_call0_v25 : Ref sig .tc := ⟨.hbm, 409, rfl⟩
abbrev main_while0b_call3_call0_call0_v26 : Ref sig .tc := ⟨.hbm, 410, rfl⟩
abbrev main_while0b_call3_call0_call0_v27 : Ref sig .tc := ⟨.hbm, 411, rfl⟩
abbrev main_while0b_call3_call0_call0_c_6 : Ref sig .tc := ⟨.hbm, 412, rfl⟩
abbrev main_while0b_call3_call0_call0_v28 : Ref sig .tc := ⟨.hbm, 413, rfl⟩
abbrev main_while0b_call3_call0_call0_v29 : Ref sig .tc := ⟨.hbm, 414, rfl⟩
abbrev main_while0b_call3_call0_call0_c_7 : Ref sig .tc := ⟨.hbm, 415, rfl⟩
abbrev main_while0b_call3_call0_call0_v30 : Ref sig .tc := ⟨.hbm, 416, rfl⟩
abbrev main_while0b_call3_call0_call0_v31 : Ref sig .tc := ⟨.hbm, 417, rfl⟩
abbrev main_while0b_call3_call0_call0_v32 : Ref sig .tc := ⟨.hbm, 418, rfl⟩
abbrev main_while0b_call3_call0_call0_v33 : Ref sig .tc := ⟨.hbm, 419, rfl⟩
abbrev main_while0b_call3_call0_call0_v34 : Ref sig .tc := ⟨.hbm, 420, rfl⟩
abbrev main_while0b_call3_call0_call0_v35 : Ref sig .tc := ⟨.hbm, 421, rfl⟩
abbrev main_while0b_call3_call0_call0_v36 : Ref sig .tc := ⟨.hbm, 422, rfl⟩
abbrev main_while0b_call3_call0_call0_v37 : Ref sig .tc := ⟨.hbm, 423, rfl⟩
abbrev main_while0b_call3_call0_call0_c_8 : Ref sig .tc := ⟨.hbm, 424, rfl⟩
abbrev main_while0b_call3_call0_call0_v38 : Ref sig .tc := ⟨.hbm, 425, rfl⟩
abbrev main_while0b_call3_call0_call0_v39 : Ref sig .tc := ⟨.hbm, 426, rfl⟩
abbrev main_while0b_call3_call0_call0_v40 : Ref sig .tc := ⟨.hbm, 427, rfl⟩
abbrev main_while0b_call3_call0_call0_c_9 : Ref sig .tc := ⟨.hbm, 428, rfl⟩
abbrev main_while0b_call3_call0_call0_v41 : Ref sig .tc := ⟨.hbm, 429, rfl⟩
abbrev main_while0b_call3_call0_call0_v42 : Ref sig .tc := ⟨.hbm, 430, rfl⟩
abbrev main_while0b_call3_call0_call0_c_10 : Ref sig .tc := ⟨.hbm, 431, rfl⟩
abbrev main_while0b_call3_call0_call0_v43 : Ref sig .tc := ⟨.hbm, 432, rfl⟩
abbrev main_while0b_call3_call0_call0_v44 : Ref sig .tc := ⟨.hbm, 433, rfl⟩
abbrev main_while0b_call3_call0_call0_v45 : Ref sig .tc := ⟨.hbm, 434, rfl⟩
abbrev main_while0b_call3_call0_call0_v46 : Ref sig .tc := ⟨.hbm, 435, rfl⟩
abbrev main_while0b_call3_call0_call0_v47 : Ref sig .tc := ⟨.hbm, 436, rfl⟩
abbrev main_while0b_call3_call0_call0_c_11 : Ref sig .tc := ⟨.hbm, 437, rfl⟩
abbrev main_while0b_call3_call0_call0_v48 : Ref sig .tc := ⟨.hbm, 438, rfl⟩
abbrev main_while0b_call3_call0_call0_v49 : Ref sig .tc := ⟨.hbm, 439, rfl⟩
abbrev main_while0b_call3_call0_call0_c_12 : Ref sig .tc := ⟨.hbm, 440, rfl⟩
abbrev main_while0b_call3_call0_call0_v50 : Ref sig .tc := ⟨.hbm, 441, rfl⟩
abbrev main_while0b_call3_call0_call0_v51 : Ref sig .tc := ⟨.hbm, 442, rfl⟩
abbrev main_while0b_call3_call0_call0_v52 : Ref sig .tc := ⟨.hbm, 443, rfl⟩
abbrev main_while0b_call3_call0_call0_v53 : Ref sig .tc := ⟨.hbm, 444, rfl⟩
abbrev main_while0b_call3_call0_call0_v54 : Ref sig .tc := ⟨.hbm, 445, rfl⟩
abbrev main_while0b_call3_call0_call0_c_13 : Ref sig .tc := ⟨.hbm, 446, rfl⟩
abbrev main_while0b_call3_call0_call0_v55 : Ref sig .tc := ⟨.hbm, 447, rfl⟩
abbrev main_while0b_call3_call0_call0_v56 : Ref sig .tc := ⟨.hbm, 448, rfl⟩
abbrev main_while0b_call3_call0_call0_c_14 : Ref sig .tc := ⟨.hbm, 449, rfl⟩
abbrev main_while0b_call3_call0_call0_v57 : Ref sig .tc := ⟨.hbm, 450, rfl⟩
abbrev main_while0b_call3_call0_call0_v58 : Ref sig .tc := ⟨.hbm, 451, rfl⟩
abbrev main_while0b_call3_call0_call0_v59 : Ref sig .tc := ⟨.hbm, 452, rfl⟩
abbrev main_while0b_call3_call0_call0_v60 : Ref sig .tc := ⟨.hbm, 453, rfl⟩
abbrev main_while0b_call3_call0_call0_v61 : Ref sig .tc := ⟨.hbm, 454, rfl⟩
abbrev main_while0b_call3_call0_call0_c_15 : Ref sig .tc := ⟨.hbm, 455, rfl⟩
abbrev main_while0b_call3_call0_call0_v62 : Ref sig .tc := ⟨.hbm, 456, rfl⟩
abbrev main_while0b_call3_call0_call0_v63 : Ref sig .tc := ⟨.hbm, 457, rfl⟩
abbrev main_while0b_call3_call0_call0_c_16 : Ref sig .tc := ⟨.hbm, 458, rfl⟩
abbrev main_while0b_call3_call0_call0_v64 : Ref sig .tc := ⟨.hbm, 459, rfl⟩
abbrev main_while0b_call3_call0_call0_v65 : Ref sig .tc := ⟨.hbm, 460, rfl⟩
abbrev main_while0b_call3_call0_call0_v66 : Ref sig .tc := ⟨.hbm, 461, rfl⟩
abbrev main_while0b_call3_call0_call0_v67 : Ref sig .tc := ⟨.hbm, 462, rfl⟩
abbrev main_while0b_call3_call0_call0_v68 : Ref sig .tc := ⟨.hbm, 463, rfl⟩
abbrev main_while0b_call3_call0_call0_v69 : Ref sig .tc := ⟨.hbm, 464, rfl⟩
abbrev main_while0b_call3_call0_call0_v70 : Ref sig .tc := ⟨.hbm, 465, rfl⟩
abbrev main_while0b_call3_call0_call0_v71 : Ref sig .tc := ⟨.hbm, 466, rfl⟩
abbrev main_while0b_call3_call0_call0_c_17 : Ref sig .tc := ⟨.hbm, 467, rfl⟩
abbrev main_while0b_call3_call0_call0_v72 : Ref sig .tc := ⟨.hbm, 468, rfl⟩
abbrev main_while0b_call3_call0_call0_v73 : Ref sig .tc := ⟨.hbm, 469, rfl⟩
abbrev main_while0b_call3_call0_call0_v74 : Ref sig .tc := ⟨.hbm, 470, rfl⟩
abbrev main_while0b_call3_call0_call0_c_18 : Ref sig .tc := ⟨.hbm, 471, rfl⟩
abbrev main_while0b_call3_call0_call0_v75 : Ref sig .tc := ⟨.hbm, 472, rfl⟩
abbrev main_while0b_call3_call0_call0_v76 : Ref sig .tc := ⟨.hbm, 473, rfl⟩
abbrev main_while0b_call3_call0_call0_c_19 : Ref sig .tc := ⟨.hbm, 474, rfl⟩
abbrev main_while0b_call3_call0_call0_v77 : Ref sig .tc := ⟨.hbm, 475, rfl⟩
abbrev main_while0b_call3_call0_call0_v78 : Ref sig .tc := ⟨.hbm, 476, rfl⟩
abbrev main_while0b_call3_call0_call0_v79 : Ref sig .tc := ⟨.hbm, 477, rfl⟩
abbrev main_while0b_call3_call0_call0_v80 : Ref sig .tc := ⟨.hbm, 478, rfl⟩
abbrev main_while0b_call3_call0_call0_v81 : Ref sig .tc := ⟨.hbm, 479, rfl⟩
abbrev main_while0b_call3_call0_call0_c_20 : Ref sig .tc := ⟨.hbm, 480, rfl⟩
abbrev main_while0b_call3_call0_call0_v82 : Ref sig .tc := ⟨.hbm, 481, rfl⟩
abbrev main_while0b_call3_call0_call0_v83 : Ref sig .tc := ⟨.hbm, 482, rfl⟩
abbrev main_while0b_call3_call0_call0_c_21 : Ref sig .tc := ⟨.hbm, 483, rfl⟩
abbrev main_while0b_call3_call0_call0_v84 : Ref sig .tc := ⟨.hbm, 484, rfl⟩
abbrev main_while0b_call3_call0_call0_v85 : Ref sig .tc := ⟨.hbm, 485, rfl⟩
abbrev main_while0b_call3_call0_call0_v86 : Ref sig .tc := ⟨.hbm, 486, rfl⟩
abbrev main_while0b_call3_call0_call0_v87 : Ref sig .tc := ⟨.hbm, 487, rfl⟩
abbrev main_while0b_call3_call0_call0_v88 : Ref sig .tc := ⟨.hbm, 488, rfl⟩
abbrev main_while0b_call3_call0_call0_c_22 : Ref sig .tc := ⟨.hbm, 489, rfl⟩
abbrev main_while0b_call3_call0_call0_v89 : Ref sig .tc := ⟨.hbm, 490, rfl⟩
abbrev main_while0b_call3_call0_call0_v90 : Ref sig .tc := ⟨.hbm, 491, rfl⟩
abbrev main_while0b_call3_call0_call0_c_23 : Ref sig .tc := ⟨.hbm, 492, rfl⟩
abbrev main_while0b_call3_call0_call0_v91 : Ref sig .tc := ⟨.hbm, 493, rfl⟩
abbrev main_while0b_call3_call0_call0_v92 : Ref sig .tc := ⟨.hbm, 494, rfl⟩
abbrev main_while0b_call3_call0_call0_v93 : Ref sig .tc := ⟨.hbm, 495, rfl⟩
abbrev main_while0b_call3_call0_call0_v94 : Ref sig .tc := ⟨.hbm, 496, rfl⟩
abbrev main_while0b_call3_call0_call0_v95 : Ref sig .tc := ⟨.hbm, 497, rfl⟩
abbrev main_while0b_call3_call0_call0_c_24 : Ref sig .tc := ⟨.hbm, 498, rfl⟩
abbrev main_while0b_call3_call0_call0_v96 : Ref sig .tc := ⟨.hbm, 499, rfl⟩
abbrev main_while0b_call3_call0_call0_v97 : Ref sig .tc := ⟨.hbm, 500, rfl⟩
abbrev main_while0b_call3_call0_call0_c_25 : Ref sig .tc := ⟨.hbm, 501, rfl⟩
abbrev main_while0b_call3_call0_call0_v98 : Ref sig .tc := ⟨.hbm, 502, rfl⟩
abbrev main_while0b_call3_call0_call0_v99 : Ref sig .tc := ⟨.hbm, 503, rfl⟩
abbrev main_while0b_call3_call0_call0_v100 : Ref sig .tc := ⟨.hbm, 504, rfl⟩
abbrev main_while0b_call3_call0_call0_v101 : Ref sig .tc := ⟨.hbm, 505, rfl⟩
abbrev main_while0b_call3_call0_call0_v102 : Ref sig .tc := ⟨.hbm, 506, rfl⟩
abbrev main_while0b_call3_call0_call0_v103 : Ref sig .tc := ⟨.hbm, 507, rfl⟩
abbrev main_while0b_call3_call0_call0_v104 : Ref sig .tc := ⟨.hbm, 508, rfl⟩
abbrev main_while0b_call3_call0_call0_v105 : Ref sig .tc := ⟨.hbm, 509, rfl⟩
abbrev main_while0b_call3_call0_call0_c_26 : Ref sig .tc := ⟨.hbm, 510, rfl⟩
abbrev main_while0b_call3_call0_call0_v106 : Ref sig .tc := ⟨.hbm, 511, rfl⟩
abbrev main_while0b_call3_call0_call0_v107 : Ref sig .tc := ⟨.hbm, 512, rfl⟩
abbrev main_while0b_call3_call0_call0_v108 : Ref sig .tc := ⟨.hbm, 513, rfl⟩
abbrev main_while0b_call3_call0_call0_c_27 : Ref sig .tc := ⟨.hbm, 514, rfl⟩
abbrev main_while0b_call3_call0_call0_v109 : Ref sig .tc := ⟨.hbm, 515, rfl⟩
abbrev main_while0b_call3_call0_call0_v110 : Ref sig .tc := ⟨.hbm, 516, rfl⟩
abbrev main_while0b_call3_call0_call0_c_28 : Ref sig .tc := ⟨.hbm, 517, rfl⟩
abbrev main_while0b_call3_call0_call0_v111 : Ref sig .tc := ⟨.hbm, 518, rfl⟩
abbrev main_while0b_call3_call0_call0_v112 : Ref sig .tc := ⟨.hbm, 519, rfl⟩
abbrev main_while0b_call3_call0_call0_v113 : Ref sig .tc := ⟨.hbm, 520, rfl⟩
abbrev main_while0b_call3_call0_call0_v114 : Ref sig .tc := ⟨.hbm, 521, rfl⟩
abbrev main_while0b_call3_call0_call0_v115 : Ref sig .tc := ⟨.hbm, 522, rfl⟩
abbrev main_while0b_call3_call0_call0_c_29 : Ref sig .tc := ⟨.hbm, 523, rfl⟩
abbrev main_while0b_call3_call0_call0_v116 : Ref sig .tc := ⟨.hbm, 524, rfl⟩
abbrev main_while0b_call3_call0_call0_v117 : Ref sig .tc := ⟨.hbm, 525, rfl⟩
abbrev main_while0b_call3_call0_call0_c_30 : Ref sig .tc := ⟨.hbm, 526, rfl⟩
abbrev main_while0b_call3_call0_call0_v118 : Ref sig .tc := ⟨.hbm, 527, rfl⟩
abbrev main_while0b_call3_call0_call0_v119 : Ref sig .tc := ⟨.hbm, 528, rfl⟩
abbrev main_while0b_call3_call0_call0_v120 : Ref sig .tc := ⟨.hbm, 529, rfl⟩
abbrev main_while0b_call3_call0_call0_v121 : Ref sig .tc := ⟨.hbm, 530, rfl⟩
abbrev main_while0b_call3_call0_call0_v122 : Ref sig .tc := ⟨.hbm, 531, rfl⟩
abbrev main_while0b_call3_call0_call0_c_31 : Ref sig .tc := ⟨.hbm, 532, rfl⟩
abbrev main_while0b_call3_call0_call0_v123 : Ref sig .tc := ⟨.hbm, 533, rfl⟩
abbrev main_while0b_call3_call0_call0_v124 : Ref sig .tc := ⟨.hbm, 534, rfl⟩
abbrev main_while0b_call3_call0_call0_c_32 : Ref sig .tc := ⟨.hbm, 535, rfl⟩
abbrev main_while0b_call3_call0_call0_v125 : Ref sig .tc := ⟨.hbm, 536, rfl⟩
abbrev main_while0b_call3_call0_call0_v126 : Ref sig .tc := ⟨.hbm, 537, rfl⟩
abbrev main_while0b_call3_call0_call0_v127 : Ref sig .tc := ⟨.hbm, 538, rfl⟩
abbrev main_while0b_call3_call0_call0_v128 : Ref sig .tc := ⟨.hbm, 539, rfl⟩
abbrev main_while0b_call3_call0_call0_v129 : Ref sig .tc := ⟨.hbm, 540, rfl⟩
abbrev main_while0b_call3_call0_call0_c_33 : Ref sig .tc := ⟨.hbm, 541, rfl⟩
abbrev main_while0b_call3_call0_call0_v130 : Ref sig .tc := ⟨.hbm, 542, rfl⟩
abbrev main_while0b_call3_call0_call0_v131 : Ref sig .tc := ⟨.hbm, 543, rfl⟩
abbrev main_while0b_call3_call0_call0_c_34 : Ref sig .tc := ⟨.hbm, 544, rfl⟩
abbrev main_while0b_call3_call0_call0_v132 : Ref sig .tc := ⟨.hbm, 545, rfl⟩
abbrev main_while0b_call3_call0_call0_v133 : Ref sig .tc := ⟨.hbm, 546, rfl⟩
abbrev main_while0b_call3_call0_call0_v134 : Ref sig .tc := ⟨.hbm, 547, rfl⟩
abbrev main_while0b_call3_call0_call0_v135 : Ref sig .tc := ⟨.hbm, 548, rfl⟩
abbrev main_while0b_call3_call0_call0_v136 : Ref sig .tc := ⟨.hbm, 549, rfl⟩
abbrev main_while0b_call3_call0_call0_v137 : Ref sig .tc := ⟨.hbm, 550, rfl⟩
abbrev main_while0b_call3_call0_call0_v138 : Ref sig .tc := ⟨.hbm, 551, rfl⟩
abbrev main_while0b_call3_call0_call0_v139 : Ref sig .tc := ⟨.hbm, 552, rfl⟩
abbrev main_while0b_call3_call0_call0_c_35 : Ref sig .tc := ⟨.hbm, 553, rfl⟩
abbrev main_while0b_call3_call0_call0_v140 : Ref sig .tc := ⟨.hbm, 554, rfl⟩
abbrev main_while0b_call3_call0_call0_v141 : Ref sig .tc := ⟨.hbm, 555, rfl⟩
abbrev main_while0b_call3_call0_call0_v142 : Ref sig .tc := ⟨.hbm, 556, rfl⟩
abbrev main_while0b_call3_call0_call0_c_36 : Ref sig .tc := ⟨.hbm, 557, rfl⟩
abbrev main_while0b_call3_call0_call0_v143 : Ref sig .tc := ⟨.hbm, 558, rfl⟩
abbrev main_while0b_call3_call0_call0_v144 : Ref sig .tc := ⟨.hbm, 559, rfl⟩
abbrev main_while0b_call3_call0_call0_c_37 : Ref sig .tc := ⟨.hbm, 560, rfl⟩
abbrev main_while0b_call3_call0_call0_v145 : Ref sig .tc := ⟨.hbm, 561, rfl⟩
abbrev main_while0b_call3_call0_call0_v146 : Ref sig .tc := ⟨.hbm, 562, rfl⟩
abbrev main_while0b_call3_call0_call0_v147 : Ref sig .tc := ⟨.hbm, 563, rfl⟩
abbrev main_while0b_call3_call0_call0_v148 : Ref sig .tc := ⟨.hbm, 564, rfl⟩
abbrev main_while0b_call3_call0_call0_v149 : Ref sig .tc := ⟨.hbm, 565, rfl⟩
abbrev main_while0b_call3_call0_call0_c_38 : Ref sig .tc := ⟨.hbm, 566, rfl⟩
abbrev main_while0b_call3_call0_call0_v150 : Ref sig .tc := ⟨.hbm, 567, rfl⟩
abbrev main_while0b_call3_call0_call0_v151 : Ref sig .tc := ⟨.hbm, 568, rfl⟩
abbrev main_while0b_call3_call0_call0_c_39 : Ref sig .tc := ⟨.hbm, 569, rfl⟩
abbrev main_while0b_call3_call0_call0_v152 : Ref sig .tc := ⟨.hbm, 570, rfl⟩
abbrev main_while0b_call3_call0_call0_v153 : Ref sig .tc := ⟨.hbm, 571, rfl⟩
abbrev main_while0b_call3_call0_call0_v154 : Ref sig .tc := ⟨.hbm, 572, rfl⟩
abbrev main_while0b_call3_call0_call0_v155 : Ref sig .tc := ⟨.hbm, 573, rfl⟩
abbrev main_while0b_call3_call0_call0_v156 : Ref sig .tc := ⟨.hbm, 574, rfl⟩
abbrev main_while0b_call3_call0_call0_c_40 : Ref sig .tc := ⟨.hbm, 575, rfl⟩
abbrev main_while0b_call3_call0_call0_v157 : Ref sig .tc := ⟨.hbm, 576, rfl⟩
abbrev main_while0b_call3_call0_call0_v158 : Ref sig .tc := ⟨.hbm, 577, rfl⟩
abbrev main_while0b_call3_call0_call0_c_41 : Ref sig .tc := ⟨.hbm, 578, rfl⟩
abbrev main_while0b_call3_call0_call0_v159 : Ref sig .tc := ⟨.hbm, 579, rfl⟩
abbrev main_while0b_call3_call0_call0_v160 : Ref sig .tc := ⟨.hbm, 580, rfl⟩
abbrev main_while0b_call3_call0_call0_v161 : Ref sig .tc := ⟨.hbm, 581, rfl⟩
abbrev main_while0b_call3_call0_call0_v162 : Ref sig .tc := ⟨.hbm, 582, rfl⟩
abbrev main_while0b_call3_call0_call0_v163 : Ref sig .tc := ⟨.hbm, 583, rfl⟩
abbrev main_while0b_call3_call0_call0_c_42 : Ref sig .tc := ⟨.hbm, 584, rfl⟩
abbrev main_while0b_call3_call0_call0_v164 : Ref sig .tc := ⟨.hbm, 585, rfl⟩
abbrev main_while0b_call3_call0_call0_v165 : Ref sig .tc := ⟨.hbm, 586, rfl⟩
abbrev main_while0b_call3_call0_call0_c_43 : Ref sig .tc := ⟨.hbm, 587, rfl⟩
abbrev main_while0b_call3_call0_call0_v166 : Ref sig .tc := ⟨.hbm, 588, rfl⟩
abbrev main_while0b_call3_call0_call0_v167 : Ref sig .tc := ⟨.hbm, 589, rfl⟩
abbrev main_while0b_call3_call0_call0_v168 : Ref sig .tc := ⟨.hbm, 590, rfl⟩
abbrev main_while0b_call3_call0_call0_v169 : Ref sig .tc := ⟨.hbm, 591, rfl⟩
abbrev main_while0b_call3_call0_call0_v170 : Ref sig .tc := ⟨.hbm, 592, rfl⟩
abbrev main_while0b_call3_call0_v18_0 : Ref sig .tc := ⟨.hbm, 593, rfl⟩
abbrev main_while0b_call3_call0_call0_v172 : Ref sig .tc := ⟨.hbm, 594, rfl⟩
abbrev main_while0b_call3_call0_call0_v173 : Ref sig .tc := ⟨.hbm, 595, rfl⟩
abbrev main_while0b_call3_call0_call0_c_44 : Ref sig .tc := ⟨.hbm, 596, rfl⟩
abbrev main_while0b_call3_call0_call0_v174 : Ref sig .tc := ⟨.hbm, 597, rfl⟩
abbrev main_while0b_call3_call0_v18_1 : Ref sig .tc := ⟨.hbm, 598, rfl⟩
abbrev main_while0b_call3_call0_v19 : Ref sig .tc := ⟨.hbm, 599, rfl⟩
abbrev main_while0b_call3_call0_c_2 : Ref sig .tc := ⟨.hbm, 600, rfl⟩
abbrev main_while0b_call3_call0_v20 : Ref sig .tc := ⟨.hbm, 601, rfl⟩
abbrev main_while0b_call3_call0_v21 : Ref sig .tc := ⟨.hbm, 602, rfl⟩
abbrev main_while0b_call3_call0_c_3 : Ref sig .tc := ⟨.hbm, 603, rfl⟩
abbrev main_while0b_call3_call0_v22 : Ref sig .tc := ⟨.hbm, 604, rfl⟩
abbrev main_while0b_call3_call0_v23 : Ref sig .tc := ⟨.hbm, 605, rfl⟩
abbrev main_while0b_call3_call0_v24 : Ref sig .tc := ⟨.hbm, 606, rfl⟩
abbrev main_while0b_call3_call0_cst : Ref sig .tc := ⟨.hbm, 607, rfl⟩
abbrev main_while0b_call3_call0_v25 : Ref sig .tc := ⟨.hbm, 608, rfl⟩
abbrev main_while0b_call3_call0_v26 : Ref sig .tc := ⟨.hbm, 609, rfl⟩
abbrev main_while0b_call3_call0_v27 : Ref sig .tc := ⟨.hbm, 610, rfl⟩
abbrev main_while0b_call3_call0_v28 : Ref sig .tc := ⟨.hbm, 611, rfl⟩
abbrev main_while0b_call3_call0_v29 : Ref sig .tc := ⟨.hbm, 612, rfl⟩
abbrev main_while0b_call3_call0_v30 : Ref sig .tc := ⟨.hbm, 613, rfl⟩
abbrev main_while0b_call3_call0_v31 : Ref sig .tc := ⟨.hbm, 614, rfl⟩
abbrev main_while0b_call3_call0_v32 : Ref sig .tc := ⟨.hbm, 615, rfl⟩
abbrev main_while0b_call3_v0 : Ref sig .tc := ⟨.hbm, 616, rfl⟩
abbrev main_while0b_call3_v1 : Ref sig .tc := ⟨.hbm, 617, rfl⟩
abbrev main_while0b_call3_v2 : Ref sig .tc := ⟨.hbm, 618, rfl⟩
abbrev main_while0b_call3_v3 : Ref sig .tc := ⟨.hbm, 619, rfl⟩
abbrev main_while0b_v68 : Ref sig .tc := ⟨.hbm, 620, rfl⟩
abbrev main_while0b_v69 : Ref sig .tc := ⟨.hbm, 621, rfl⟩
abbrev main_while0b_call4_v0 : Ref sig .tc := ⟨.hbm, 622, rfl⟩
abbrev main_while0b_call4_cst : Ref sig .tc := ⟨.hbm, 623, rfl⟩
abbrev main_while0b_call4_c : Ref sig .tc := ⟨.hbm, 624, rfl⟩
abbrev main_while0b_call4_v1_0 : Ref sig .tc := ⟨.hbm, 625, rfl⟩
abbrev main_while0b_v70 : Ref sig .tc := ⟨.hbm, 626, rfl⟩
abbrev main_while0b_v71 : Ref sig .tc := ⟨.hbm, 627, rfl⟩
abbrev main_while0b_call5_c : Ref sig .tc := ⟨.hbm, 628, rfl⟩
abbrev main_while0b_call5_v0 : Ref sig .tc := ⟨.hbm, 629, rfl⟩
abbrev main_while0b_call5_v1 : Ref sig .tc := ⟨.hbm, 630, rfl⟩
abbrev main_while0b_call5_c_0 : Ref sig .tc := ⟨.hbm, 631, rfl⟩
abbrev main_while0b_call5_v2 : Ref sig .tc := ⟨.hbm, 632, rfl⟩
abbrev main_while0b_call5_v3 : Ref sig .tc := ⟨.hbm, 633, rfl⟩
abbrev main_while0b_call5_v4 : Ref sig .tc := ⟨.hbm, 634, rfl⟩
abbrev main_while0b_call5_v5 : Ref sig .tc := ⟨.hbm, 635, rfl⟩
abbrev main_while0b_call5_c_1 : Ref sig .tc := ⟨.hbm, 636, rfl⟩
abbrev main_while0b_call5_c_2 : Ref sig .tc := ⟨.hbm, 637, rfl⟩
abbrev main_while0b_call5_v6 : Ref sig .tc := ⟨.hbm, 638, rfl⟩
abbrev main_while0b_call5_v7 : Ref sig .tc := ⟨.hbm, 639, rfl⟩
abbrev main_while0b_call5_v8 : Ref sig .tc := ⟨.hbm, 640, rfl⟩
abbrev main_while0b_call5_v9 : Ref sig .tc := ⟨.hbm, 641, rfl⟩
abbrev main_while0b_call5_v10 : Ref sig .tc := ⟨.hbm, 642, rfl⟩
abbrev main_while0b_call5_v11 : Ref sig .tc := ⟨.hbm, 643, rfl⟩
abbrev main_while0b_call5_c_3 : Ref sig .tc := ⟨.hbm, 644, rfl⟩
abbrev main_while0b_call5_v12 : Ref sig .tc := ⟨.hbm, 645, rfl⟩
abbrev main_while0b_call5_v13 : Ref sig .tc := ⟨.hbm, 646, rfl⟩
abbrev main_while0b_call5_cst : Ref sig .tc := ⟨.hbm, 647, rfl⟩
abbrev main_while0b_call5_v14 : Ref sig .tc := ⟨.hbm, 648, rfl⟩
abbrev main_while0b_v72 : Ref sig .tc := ⟨.hbm, 649, rfl⟩
abbrev main_while0b_v73 : Ref sig .tc := ⟨.hbm, 650, rfl⟩
abbrev main_while0b_cst_37 : Ref sig .tc := ⟨.hbm, 651, rfl⟩
abbrev main_while0b_v74 : Ref sig .tc := ⟨.hbm, 652, rfl⟩
abbrev main_while0b_v75 : Ref sig .tc := ⟨.hbm, 653, rfl⟩
abbrev main_while0b_v76 : Ref sig .tc := ⟨.hbm, 654, rfl⟩
abbrev main_while0b_c_38 : Ref sig .tc := ⟨.hbm, 655, rfl⟩
abbrev main_while0b_v77 : Ref sig .tc := ⟨.hbm, 656, rfl⟩
abbrev main_while0b_v78 : Ref sig .tc := ⟨.hbm, 657, rfl⟩
abbrev main_while0b_c_39 : Ref sig .tc := ⟨.hbm, 658, rfl⟩
abbrev main_while0b_v79 : Ref sig .tc := ⟨.hbm, 659, rfl⟩
abbrev main_while0b_v80 : Ref sig .tc := ⟨.hbm, 660, rfl⟩
abbrev main_while0b_v81 : Ref sig .tc := ⟨.hbm, 661, rfl⟩
abbrev main_while0b_c_40 : Ref sig .tc := ⟨.hbm, 662, rfl⟩
abbrev main_while0b_v82 : Ref sig .tc := ⟨.hbm, 663, rfl⟩
abbrev main_while0b_v83 : Ref sig .tc := ⟨.hbm, 664, rfl⟩
abbrev main_while0b_c_41 : Ref sig .tc := ⟨.hbm, 665, rfl⟩
abbrev main_while0b_v84 : Ref sig .tc := ⟨.hbm, 666, rfl⟩
abbrev main_while0b_v85 : Ref sig .tc := ⟨.hbm, 667, rfl⟩
abbrev main_while0b_v86 : Ref sig .tc := ⟨.hbm, 668, rfl⟩
abbrev main_while0b_v87 : Ref sig .tc := ⟨.hbm, 669, rfl⟩
abbrev main_while0b_v88 : Ref sig .tc := ⟨.hbm, 670, rfl⟩
abbrev main_while0b_v89 : Ref sig .tc := ⟨.hbm, 671, rfl⟩
abbrev main_while0b_c_42 : Ref sig .tc := ⟨.hbm, 672, rfl⟩
abbrev main_while0b_v90 : Ref sig .tc := ⟨.hbm, 673, rfl⟩
abbrev main_while0b_v91 : Ref sig .tc := ⟨.hbm, 674, rfl⟩
abbrev main_while0b_v92 : Ref sig .tc := ⟨.hbm, 675, rfl⟩
abbrev main_while0b_v93 : Ref sig .tc := ⟨.hbm, 676, rfl⟩
abbrev main_while0b_call6_c : Ref sig .tc := ⟨.hbm, 677, rfl⟩
abbrev main_while0b_call6_v0 : Ref sig .tc := ⟨.hbm, 678, rfl⟩
abbrev main_while0b_call6_v1 : Ref sig .tc := ⟨.hbm, 679, rfl⟩
abbrev main_while0b_call6_c_0 : Ref sig .tc := ⟨.hbm, 680, rfl⟩
abbrev main_while0b_call6_v2 : Ref sig .tc := ⟨.hbm, 681, rfl⟩
abbrev main_while0b_call6_v3 : Ref sig .tc := ⟨.hbm, 682, rfl⟩
abbrev main_while0b_call6_v4 : Ref sig .tc := ⟨.hbm, 683, rfl⟩
abbrev main_while0b_call6_v5 : Ref sig .tc := ⟨.hbm, 684, rfl⟩
abbrev main_while0b_call6_c_1 : Ref sig .tc := ⟨.hbm, 685, rfl⟩
abbrev main_while0b_call6_c_2 : Ref sig .tc := ⟨.hbm, 686, rfl⟩
abbrev main_while0b_call6_v6 : Ref sig .tc := ⟨.hbm, 687, rfl⟩
abbrev main_while0b_call6_v7 : Ref sig .tc := ⟨.hbm, 688, rfl⟩
abbrev main_while0b_call6_v8 : Ref sig .tc := ⟨.hbm, 689, rfl⟩
abbrev main_while0b_call6_v9 : Ref sig .tc := ⟨.hbm, 690, rfl⟩
abbrev main_while0b_call6_v10 : Ref sig .tc := ⟨.hbm, 691, rfl⟩
abbrev main_while0b_call6_v11 : Ref sig .tc := ⟨.hbm, 692, rfl⟩
abbrev main_while0b_call6_c_3 : Ref sig .tc := ⟨.hbm, 693, rfl⟩
abbrev main_while0b_call6_v12 : Ref sig .tc := ⟨.hbm, 694, rfl⟩
abbrev main_while0b_call6_v13 : Ref sig .tc := ⟨.hbm, 695, rfl⟩
abbrev main_while0b_call6_cst : Ref sig .tc := ⟨.hbm, 696, rfl⟩
abbrev main_while0b_call6_v14 : Ref sig .tc := ⟨.hbm, 697, rfl⟩
abbrev main_while0b_v94 : Ref sig .tc := ⟨.hbm, 698, rfl⟩
abbrev main_while0b_v95 : Ref sig .tc := ⟨.hbm, 699, rfl⟩
abbrev main_while0b_v96 : Ref sig .tc := ⟨.hbm, 700, rfl⟩
abbrev main_while0b_call7_v0 : Ref sig .tc := ⟨.hbm, 701, rfl⟩
abbrev main_while0b_call7_cst : Ref sig .tc := ⟨.hbm, 702, rfl⟩
abbrev main_while0b_call7_v1 : Ref sig .tc := ⟨.hbm, 703, rfl⟩
abbrev main_while0b_v97 : Ref sig .tc := ⟨.hbm, 704, rfl⟩
abbrev main_while0b_v98 : Ref sig .tc := ⟨.hbm, 705, rfl⟩
abbrev main_while0b_v99 : Ref sig .tc := ⟨.hbm, 706, rfl⟩
abbrev main_while0b_call8_c : Ref sig .tc := ⟨.hbm, 707, rfl⟩
abbrev main_while0b_call8_v0 : Ref sig .tc := ⟨.hbm, 708, rfl⟩
abbrev main_while0b_call8_v1 : Ref sig .tc := ⟨.hbm, 709, rfl⟩
abbrev main_while0b_call8_c_0 : Ref sig .tc := ⟨.hbm, 710, rfl⟩
abbrev main_while0b_call8_v2 : Ref sig .tc := ⟨.hbm, 711, rfl⟩
abbrev main_while0b_call8_v3 : Ref sig .tc := ⟨.hbm, 712, rfl⟩
abbrev main_while0b_call8_v4 : Ref sig .tc := ⟨.hbm, 713, rfl⟩
abbrev main_while0b_call8_v5 : Ref sig .tc := ⟨.hbm, 714, rfl⟩
abbrev main_while0b_call8_c_1 : Ref sig .tc := ⟨.hbm, 715, rfl⟩
abbrev main_while0b_call8_c_2 : Ref sig .tc := ⟨.hbm, 716, rfl⟩
abbrev main_while0b_call8_v6 : Ref sig .tc := ⟨.hbm, 717, rfl⟩
abbrev main_while0b_call8_v7 : Ref sig .tc := ⟨.hbm, 718, rfl⟩
abbrev main_while0b_call8_v8 : Ref sig .tc := ⟨.hbm, 719, rfl⟩
abbrev main_while0b_call8_v9 : Ref sig .tc := ⟨.hbm, 720, rfl⟩
abbrev main_while0b_call8_v10 : Ref sig .tc := ⟨.hbm, 721, rfl⟩
abbrev main_while0b_call8_v11 : Ref sig .tc := ⟨.hbm, 722, rfl⟩
abbrev main_while0b_call8_c_3 : Ref sig .tc := ⟨.hbm, 723, rfl⟩
abbrev main_while0b_call8_v12 : Ref sig .tc := ⟨.hbm, 724, rfl⟩
abbrev main_while0b_call8_v13 : Ref sig .tc := ⟨.hbm, 725, rfl⟩
abbrev main_while0b_call8_cst : Ref sig .tc := ⟨.hbm, 726, rfl⟩
abbrev main_while0b_call8_v14 : Ref sig .tc := ⟨.hbm, 727, rfl⟩
abbrev main_while0b_v100 : Ref sig .tc := ⟨.hbm, 728, rfl⟩
abbrev main_while0b_v101 : Ref sig .tc := ⟨.hbm, 729, rfl⟩
abbrev main_while0b_c_43 : Ref sig .tc := ⟨.hbm, 730, rfl⟩
abbrev main_while0b_v102 : Ref sig .tc := ⟨.hbm, 731, rfl⟩
abbrev main_while0b_v103 : Ref sig .tc := ⟨.hbm, 732, rfl⟩
abbrev main_while0b_v104 : Ref sig .tc := ⟨.hbm, 733, rfl⟩
abbrev main_while0b_v105 : Ref sig .tc := ⟨.hbm, 734, rfl⟩
abbrev main_while0b_v106 : Ref sig .tc := ⟨.hbm, 735, rfl⟩
abbrev main_while0b_v107 : Ref sig .tc := ⟨.hbm, 736, rfl⟩
abbrev main_while0b_v108 : Ref sig .tc := ⟨.hbm, 737, rfl⟩
abbrev main_while0b_v109 : Ref sig .tc := ⟨.hbm, 738, rfl⟩
abbrev main_while0b_v110 : Ref sig .tc := ⟨.hbm, 739, rfl⟩
abbrev main_while0b_call10_v0 : Ref sig .tc := ⟨.hbm, 740, rfl⟩
abbrev main_while0b_call10_c : Ref sig .tc := ⟨.hbm, 741, rfl⟩
abbrev main_while0b_v111 : Ref sig .tc := ⟨.hbm, 742, rfl⟩
abbrev main_while0b_call11_v0 : Ref sig .tc := ⟨.hbm, 743, rfl⟩
abbrev main_while0b_call11_c : Ref sig .tc := ⟨.hbm, 744, rfl⟩
abbrev main_while0b_v112 : Ref sig .tc := ⟨.hbm, 745, rfl⟩
abbrev main_while0b_call12_v0 : Ref sig .tc := ⟨.hbm, 746, rfl⟩
abbrev main_while0b_call12_c : Ref sig .tc := ⟨.hbm, 747, rfl⟩
abbrev main_while0b_v113 : Ref sig .tc := ⟨.hbm, 748, rfl⟩
abbrev main_while0b_c_44 : Ref sig .tc := ⟨.hbm, 749, rfl⟩
abbrev main_while0b_v114 : Ref sig .tc := ⟨.hbm, 750, rfl⟩
abbrev main_cst_9 : Ref sig .tc := ⟨.hbm, 751, rfl⟩
abbrev main_v29 : Ref sig .tc := ⟨.hbm, 752, rfl⟩
abbrev main_v30 : Ref sig .tc := ⟨.hbm, 753, rfl⟩
abbrev main_cst_10 : Ref sig .tc := ⟨.hbm, 754, rfl⟩
abbrev main_v31 : Ref sig .tc := ⟨.hbm, 755, rfl⟩
abbrev main_v32 : Ref sig .tc := ⟨.hbm, 756, rfl⟩

abbrev nD : Nat := 1
abbrev τ : Topo := Topo.v7x

variable {F : FTy → Type} [FloatOps F]

abbrev main_while0_count : Scf.Loop 32 := ⟨0#32, 50#32, 1#32⟩
-- ==== Proof.IdealBody.lean ====
/-
  The decode kernel's body as a run: the state the loop carries (`St`), the state before the first trip (`init`), one
  trip (`step`), and the triple of the whole body from the staged arrays `Ins`.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.ValueKit

@[expose] public section

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The fifteen arrays the body reads, as staged. -/
structure Ins (F : FTy → Type) [FloatOps F] where
  ccT : Vec F S50x128x128 .f32
  odx : Vec F S128x50 .f32
  ody : Vec F S128x50 .f32
  mask0 : Vec F S128x50 .f32
  g : Vec F S50x128x50 .f32
  initw : Vec F S1x256 .f32
  whT : Vec F S128x128 .f32
  bh : Vec F S1x128 .f32
  wvT : Vec F S256x128 .f32
  bv : Vec F S1x128 .f32
  wqT : Vec F S128x128 .f32
  bq : Vec F S1x128 .f32
  wrT : Vec F S128x128 .f32
  br : Vec F S1x128 .f32
  vm : Vec F S128x50 .f32

/-- What the body keeps from one trip to the next: the three results so far, the query, the mask of nodes taken, the
    first node's context and the last node's coordinates. -/
structure St (F : FTy → Type) [FloatOps F] where
  logp : Vec F S128x1 .f32
  rew : Vec F S128x1 .f32
  act : Vec F S128x50 .i32
  query : Vec F S128x128 .f32
  mask : Vec F S128x50 .f32
  inith : Vec F S128x128 .f32
  last : Vec F S128x2 .f32

/-- The graph embedding, read once before the loop. -/
def hbar (I : Ins F) : FVec F S128x128 .f32 :=
  k0_pay27 (k0_pay22 I.ccT) (k0_pay25 (k0_pay22 I.ccT) (k0_pay23 I.ccT) (k0_pay24 I.ccT)) (k0_pay26 (k0_pay22 I.ccT)) I.whT I.bh

/-- The attention keys, computed once before the loop. -/
def ref3 (I : Ins F) : FVec F S50x128x128 .f32 := k0_pay30 (k0_pay22 I.ccT) I.wrT I.br

/-- The state before the first trip. -/
def init (I : Ins F) : St F where
  logp := k0_pay1 (F := F)
  rew := k0_pay2 (F := F)
  act := k0_pay3
  query := k0_pay29 (hbar I) (k0_pay28 I.initw I.wvT) I.bv
  mask := k0_pay31 I.mask0
  inith := k0_pay32 (F := F)
  last := k0_pay33 (F := F)

/-- The trip's own number as the word the body computes with. -/
def tripWord (k : ℕ) : BitVec 32 := Scf.iv 0#32 1#32 k

/-- The trip's slab of the noise array. -/
def noise (I : Ins F) (k : Fin k0_t1_loop.trips) : FVec F S128x50 .f32 :=
  k0_pay9 (View.ld I.g (Rect.unit (s := S50x128x50) (k0_off1 k) S1x128x50.size (k0_off1_inb k)))

/-- The column numbers. -/
def cols : IVec S128x50 32 := iota .tc S128x50 32 [1] iota_S128x50_d1_w32

/-- The masked logits of a trip entered at `s`. -/
def logits (I : Ins F) (s : St F) : FVec F S128x50 .f32 := k0_pay10 s.query I.wqT I.bq (ref3 I) I.vm s.mask
/-- Their row maximum. -/
def rowMax (I : Ins F) (s : St F) : FVec F S128 .f32 := k0_pay11 s.query I.wqT I.bq (ref3 I) I.vm s.mask
/-- The node each row takes in the trip, as a column. -/
def chosen (I : Ins F) (k : Fin k0_t1_loop.trips) (s : St F) : IVec S128x1 32 :=
  k0_pay13 cols (noise I k) (logits I s) (rowMax I s)
/-- The same as one bit per node. -/
def chosenBits (I : Ins F) (k : Fin k0_t1_loop.trips) (s : St F) : IVec S128x50 1 :=
  k0_pay14 cols (noise I k) (logits I s) (rowMax I s)

/-- One trip. -/
def step (I : Ins F) (k : Fin k0_t1_loop.trips) (s : St F) : St F where
  logp := k0_pay15 cols (noise I k) (logits I s) (rowMax I s) s.logp
  rew := k0_pay20 (tripWord k) (chosenBits I k s) I.odx I.ody s.last s.rew s.rew
  act := k0_pay16 (tripWord k) cols (noise I k) (logits I s) (rowMax I s) s.act
  query := k0_pay8 (hbar I) (tripWord k) (chosen I k s) I.ccT s.inith I.wvT I.bv
  mask := k0_pay17 (chosenBits I k s) s.mask
  inith := k0_pay7 (tripWord k) (chosen I k s) I.ccT s.inith
  last := k0_pay4 (k0_pay21 (chosenBits I k s) I.odx I.ody)

/-- The state before trip `k` (constant past the last trip). -/
def stAt (I : Ins F) : ℕ → St F
  | 0 => init I
  | k + 1 => if h : k < k0_t1_loop.trips then step I ⟨k, h⟩ (stAt I k) else stAt I k

theorem stAt_succ (I : Ins F) (k : Fin k0_t1_loop.trips) : stAt I (k.val + 1) = step I k (stAt I k.val) := by
  rw [stAt, dif_pos k.isLt]

/-- A buffer that one store covers whole reads as what was stored. -/
theorem read_store {sig : RefSig} {κ : Kind} {sp : Space} {S : Shape} {e : EltTy} (M : Memref sig κ sp S e)
    (f : M.view.ty.Contents (Elt F)) {off : Fin S.rank → ℕ} (inb : ∀ a, off a + S.size a ≤ S.size a) (h : ∀ a, off a = 0)
    (w : S.Idx → Elt F e) :
    M.view.read (Elt F) (M.view.writes (Elt F) f [⟨Rect.unit off S.size inb, w⟩]) = w := by
  rw [View.read_writes_eq_canon _ _ _ (fun y => ⟨_, List.mem_singleton_self _, by
    obtain rfl : off = fun _ => 0 := funext h
    show y ∈ (Rect.whole S).set; rw [Rect.set_whole]; exact Finset.mem_univ y⟩), View.canon_cons_unit_lit _ _ _ h]

/-- A load of a whole buffer reads its contents. -/
theorem read_load {sig : RefSig} {κ : Kind} {sp : Space} {S : Shape} {e : EltTy} {M : Memref sig κ sp S e}
    {f : M.view.ty.Contents (Elt F)} {x : S.Idx → Elt F e} (hx : M.view.read (Elt F) f = x)
    {off : Fin S.rank → ℕ} (inb : ∀ a, off a + S.size a ≤ S.size a) (h : ∀ a, off a = 0) :
    M.view.readAt (Elt F) (Rect.unit off S.size inb).toLoadRect f = x := by
  rw [View.readAt_eq_ld, View.ld_unit_lit _ _ h, hx]

/-- Holding a buffer at contents that read as `x` is owning it at `x`. -/
theorem own_intro {c : Dev nD} {sp : Space} {S : Shape} {e : EltTy} {M : Memref sig .tc sp S e}
    {f : Buf (Elt F) (M.view.loc (c : Thread nD τ))} {x : S.Idx → Elt F e} (hx : M.view.read (Elt F) f = x) :
    (M.view.loc (c : Thread nD τ) ↦[M.view.set]{fullShare} f : sProp 𝕄)
      ⊢ iprop(∃ f, ⌜M.view.read (Elt F) f = x⌝ ∗ M.view.loc (c : Thread nD τ) ↦[M.view.set]{fullShare} f) := by
  iintro H
  iexists f; isplitr; · ipureintro; exact hx
  iexact H

omit [FloatOps F] in
/-- The body's triple rearranged as the pipeline asks for it: the five scratch buffers and the generator register pass
    through at some contents, what is owed passes through untouched. -/
theorem around {σ0 σ1 σ2 σ3 σ4 β15 β16 β17 δ0 δ1 δ2 δ3 δ4 δ5 δ6 δ7 δ8 δ9 δ10 δ11 δ12 δ13 δ14 δ15 δ16 δ17 : Type} (W : (PUnit → sProp 𝕄) → sProp 𝕄)
    (P0 P1 P2 P3 P4 P5 P6 P7 P8 P9 P10 P11 P12 P13 P14 HP HO : sProp 𝕄) (S0 : σ0 → sProp 𝕄) (S1 : σ1 → sProp 𝕄) (S2 : σ2 → sProp 𝕄)
    (S3 : σ3 → sProp 𝕄) (S4 : σ4 → sProp 𝕄) (D15 : β15 → sProp 𝕄) (D16 : β16 → sProp 𝕄) (D17 : β17 → sProp 𝕄)
    (b15 : δ15 → β15) (b16 : δ16 → β16) (b17 : δ17 → β17)
    (r0 : σ0) (r1 : σ1) (r2 : σ2) (r3 : σ3) (r4 : σ4) (r15 : β15) (r16 : β16) (r17 : β17)
    (key : ∀ K : PUnit → sProp 𝕄, iprop(P0 ∗ P1 ∗ P2 ∗ P3 ∗ P4 ∗ P5 ∗ P6 ∗ P7 ∗ P8 ∗ P9 ∗ P10 ∗ P11 ∗ P12 ∗ P13 ∗ P14 ∗ (∃ d, S4 d) ∗ (∃ d, D15 d) ∗ (∃ d, D16 d) ∗ (∃ d, D17 d)
        ∗ (∃ d, S0 d) ∗ (∃ d, S1 d) ∗ (∃ d, S2 d) ∗ (∃ d, S3 d)
        ∗ (iprop(P0 ∗ P1 ∗ P2 ∗ P3 ∗ P4 ∗ P5 ∗ P6 ∗ P7 ∗ P8 ∗ P9 ∗ P10 ∗ P11 ∗ P12 ∗ P13 ∗ P14 ∗ S4 r4 ∗ D15 r15 ∗ D16 r16 ∗ D17 r17 ∗ S0 r0 ∗ S1 r1 ∗ S2 r2 ∗ S3 r3) -∗ K ⟨⟩)) ⊢ W K) :
    iprop((((∃ d, S0 d) ∗ (∃ d, S1 d) ∗ (∃ d, S2 d) ∗ (∃ d, S3 d) ∗ (∃ d, S4 d)) ∗ HP) ∗ HO
        ∗ (∃ d : δ0, P0) ∗ (∃ d : δ1, P1) ∗ (∃ d : δ2, P2) ∗ (∃ d : δ3, P3) ∗ (∃ d : δ4, P4) ∗ (∃ d : δ5, P5) ∗ (∃ d : δ6, P6) ∗ (∃ d : δ7, P7) ∗ (∃ d : δ8, P8) ∗ (∃ d : δ9, P9) ∗ (∃ d : δ10, P10) ∗ (∃ d : δ11, P11) ∗ (∃ d : δ12, P12) ∗ (∃ d : δ13, P13) ∗ (∃ d : δ14, P14)
        ∗ (∃ d, D15 (b15 d)) ∗ (∃ d, D16 (b16 d)) ∗ (∃ d, D17 (b17 d)))
      ⊢ W (fun _ => iprop((((∃ d, S0 d) ∗ (∃ d, S1 d) ∗ (∃ d, S2 d) ∗ (∃ d, S3 d) ∗ (∃ d, S4 d)) ∗ HP) ∗ HO
        ∗ P0 ∗ P1 ∗ P2 ∗ P3 ∗ P4 ∗ P5 ∗ P6 ∗ P7 ∗ P8 ∗ P9 ∗ P10 ∗ P11 ∗ P12 ∗ P13 ∗ P14 ∗ D15 r15 ∗ D16 r16 ∗ D17 r17)) := by
  iintro ⟨⟨⟨⟨%s0, S0⟩, ⟨%s1, S1⟩, ⟨%s2, S2⟩, ⟨%s3, S3⟩, ⟨%s4, S4⟩⟩, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply key
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S4]; · iexists _; iexact S4
  isplitl [H15]; · iexists _; iexact H15
  isplitl [H16]; · iexists _; iexact H16
  isplitl [H17]; · iexists _; iexact H17
  isplitl [S0]; · iexists _; iexact S0
  isplitl [S1]; · iexists _; iexact S1
  isplitl [S2]; · iexists _; iexact S2
  isplitl [S3]; · iexists _; iexact S3
  iintro ⟨H0, H1, H2, H3, H4, H5, H6, H7, H8, H9, H10, H11, H12, H13, H14, S4, H15, H16, H17, S0, S1, S2, S3⟩
  isplitl [S0 S1 S2 S3 S4 HP]
  · isplitr [HP]
    · isplitl [S0]; · iexists _; iexact S0
      isplitl [S1]; · iexists _; iexact S1
      isplitl [S2]; · iexists _; iexact S2
      isplitl [S3]; · iexists _; iexact S3
      iexists _; iexact S4
    iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

section Run

variable (c : Dev nD)
  (arg0 : Memref sig .tc .vmem S50x128x128 .f32) (harg0 : arg0.IsWhole)
  (arg1 : Memref sig .tc .vmem S128x50 .f32) (harg1 : arg1.IsWhole)
  (arg2 : Memref sig .tc .vmem S128x50 .f32) (harg2 : arg2.IsWhole)
  (arg3 : Memref sig .tc .vmem S128x50 .f32) (harg3 : arg3.IsWhole)
  (arg4 : Memref sig .tc .vmem S50x128x50 .f32) (harg4 : arg4.IsWhole)
  (arg5 : Memref sig .tc .vmem S1x256 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S256x128 .f32) (harg8 : arg8.IsWhole)
  (arg9 : Memref sig .tc .vmem S1x128 .f32) (harg9 : arg9.IsWhole)
  (arg10 : Memref sig .tc .vmem S128x128 .f32) (harg10 : arg10.IsWhole)
  (arg11 : Memref sig .tc .vmem S1x128 .f32) (harg11 : arg11.IsWhole)
  (arg12 : Memref sig .tc .vmem S128x128 .f32) (harg12 : arg12.IsWhole)
  (arg13 : Memref sig .tc .vmem S1x128 .f32) (harg13 : arg13.IsWhole)
  (arg14 : Memref sig .tc .vmem S128x50 .f32) (harg14 : arg14.IsWhole)
  (arg15 : Memref sig .tc .vmem S128x1 .f32) (harg15 : arg15.IsWhole)
  (arg16 : Memref sig .tc .vmem S128x1 .f32) (harg16 : arg16.IsWhole)
  (arg17 : Memref sig .tc .vmem S128x50 .i32) (harg17 : arg17.IsWhole)
  (arg18 : Memref sig .tc .vmem S128x128 .f32) (harg18 : arg18.IsWhole)
  (arg19 : Memref sig .tc .vmem S128x50 .f32) (harg19 : arg19.IsWhole)
  (arg20 : Memref sig .tc .vmem S128x128 .f32) (harg20 : arg20.IsWhole)
  (arg21 : Memref sig .tc .vmem S128x2 .f32) (harg21 : arg21.IsWhole)
  (arg22 : Memref sig .tc .vmem S50x128x128 .f32) (harg22 : arg22.IsWhole)

/-- What the body holds before a trip entered at `s`: every array it reads as staged, the keys, and the state. -/
def held (I : Ins F) (s : St F) : sProp 𝕄 :=
  iprop(owns (c : Thread nD τ) arg0 fullShare I.ccT ∗ owns (c : Thread nD τ) arg1 fullShare I.odx ∗ owns (c : Thread nD τ) arg2 fullShare I.ody ∗ owns (c : Thread nD τ) arg3 fullShare I.mask0 ∗ owns (c : Thread nD τ) arg4 fullShare I.g ∗ owns (c : Thread nD τ) arg5 fullShare I.initw ∗ owns (c : Thread nD τ) arg6 fullShare I.whT ∗ owns (c : Thread nD τ) arg7 fullShare I.bh ∗ owns (c : Thread nD τ) arg8 fullShare I.wvT ∗ owns (c : Thread nD τ) arg9 fullShare I.bv ∗ owns (c : Thread nD τ) arg10 fullShare I.wqT ∗ owns (c : Thread nD τ) arg11 fullShare I.bq ∗ owns (c : Thread nD τ) arg12 fullShare I.wrT ∗ owns (c : Thread nD τ) arg13 fullShare I.br ∗ owns (c : Thread nD τ) arg14 fullShare I.vm ∗ owns (c : Thread nD τ) arg22 fullShare (ref3 I) ∗ owns (c : Thread nD τ) arg15 fullShare s.logp ∗ owns (c : Thread nD τ) arg16 fullShare s.rew ∗ owns (c : Thread nD τ) arg17 fullShare s.act ∗ owns (c : Thread nD τ) arg18 fullShare s.query ∗ owns (c : Thread nD τ) arg19 fullShare s.mask ∗ owns (c : Thread nD τ) arg20 fullShare s.inith ∗ owns (c : Thread nD τ) arg21 fullShare s.last)

/-- One trip takes `s` to `step I k s`. -/
theorem trip_run (I : Ins F) (k : Fin k0_t1_loop.trips) (s : St F) :
    held c arg0 arg1 arg2 arg3 arg4 arg5 arg6 arg7 arg8 arg9 arg10 arg11 arg12 arg13 arg14 arg15 arg16 arg17 arg18 arg19 arg20 arg21 arg22 I s
      ⊢ wp frame (wpE (defs₀ (F := F)) Variants.none (c : Thread nD τ) none) Set.univ
        (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (hbar I) k ())
        (fun _ => held c arg0 arg1 arg2 arg3 arg4 arg5 arg6 arg7 arg8 arg9 arg10 arg11 arg12 arg13 arg14 arg15 arg16 arg17 arg18 arg19 arg20 arg21 arg22 I (step I k s)) := by
  unfold held owns
  iintro ⟨⟨%f0, %h0, R0⟩, ⟨%f1, %h1, R1⟩, ⟨%f2, %h2, R2⟩, ⟨%f3, %h3, R3⟩, ⟨%f4, %h4, R4⟩, ⟨%f5, %h5, R5⟩, ⟨%f6, %h6, R6⟩, ⟨%f7, %h7, R7⟩, ⟨%f8, %h8, R8⟩, ⟨%f9, %h9, R9⟩, ⟨%f10, %h10, R10⟩, ⟨%f11, %h11, R11⟩, ⟨%f12, %h12, R12⟩, ⟨%f13, %h13, R13⟩, ⟨%f14, %h14, R14⟩, ⟨%f22, %h22, R22⟩, ⟨%f15, %h15, R15⟩, ⟨%f16, %h16, R16⟩, ⟨%f17, %h17, R17⟩, ⟨%f18, %h18, R18⟩, ⟨%f19, %h19, R19⟩, ⟨%f20, %h20, R20⟩, ⟨%f21, %h21, R21⟩⟩
  sl_unfold [k0_t1_body]
  sl_exec
  sl_step
  have e0 := read_load h0 inb_S50x128x128_S50x128x128_0_0_0 (by decide)
  have e1 := read_load h1 inb_S128x50_S128x50_0_0 (by decide)
  have e2 := read_load h2 inb_S128x50_S128x50_0_0 (by decide)
  have e8 := read_load h8 inb_S256x128_S256x128_0_0 (by decide)
  have e9 := read_load h9 inb_S1x128_S1x128_0_0 (by decide)
  have e10 := read_load h10 inb_S128x128_S128x128_0_0 (by decide)
  have e11 := read_load h11 inb_S1x128_S1x128_0_0 (by decide)
  have e14 := read_load h14 inb_S128x50_S128x50_0_0 (by decide)
  have e22 := read_load h22 inb_S50x128x128_S50x128x128_0_0_0 (by decide)
  have e15 := read_load h15 inb_S128x1_S128x1_0_0 (by decide)
  have e16 := read_load h16 inb_S128x1_S128x1_0_0 (by decide)
  have e17 := read_load h17 inb_S128x50_S128x50_0_0 (by decide)
  have e18 := read_load h18 inb_S128x128_S128x128_0_0 (by decide)
  have e19 := read_load h19 inb_S128x50_S128x50_0_0 (by decide)
  have e20 := read_load h20 inb_S128x128_S128x128_0_0 (by decide)
  have e21 := read_load h21 inb_S128x2_S128x2_0_0 (by decide)
  have e4 : arg4.view.readAt (Elt F) (Rect.unit (s := S50x128x50) (k0_off1 k) S1x128x50.size (k0_off1_inb k)).toLoadRect f4
      = View.ld I.g (Rect.unit (s := S50x128x50) (k0_off1 k) S1x128x50.size (k0_off1_inb k)) := by
    rw [View.readAt_eq_ld, h4]
  have hr : trip_run.sl.r c arg4 k f4 = noise I k := by unfold trip_run.sl.r noise; rw [e4]
  have hr1 : trip_run.sl.r_1 c arg10 arg11 arg14 arg18 arg19 arg22 f10 f11 f14 f22 f18 f19 = logits I s := by
    unfold trip_run.sl.r_1 logits; rw [e18, e10, e11, e22, e14, e19]
  have hr2 : trip_run.sl.r_2 c arg10 arg11 arg14 arg18 arg19 arg22 f10 f11 f14 f22 f18 f19 = rowMax I s := by
    unfold trip_run.sl.r_2 rowMax; rw [e18, e10, e11, e22, e14, e19]
  have hr3 : trip_run.sl.r_3 c arg4 arg10 arg11 arg14 arg18 arg19 arg22 k f4 f10 f11 f14 f22 f18 f19 = chosen I k s := by
    unfold trip_run.sl.r_3 chosen; rw [hr, hr1, hr2]; rfl
  have hr4 : trip_run.sl.r_4 c arg4 arg10 arg11 arg14 arg18 arg19 arg22 k f4 f10 f11 f14 f22 f18 f19 = chosenBits I k s := by
    unfold trip_run.sl.r_4 chosenBits; rw [hr, hr1, hr2]; rfl
  isplitl [R0]; · iapply (own_intro h0); iexact R0
  isplitl [R1]; · iapply (own_intro h1); iexact R1
  isplitl [R2]; · iapply (own_intro h2); iexact R2
  isplitl [R3]; · iapply (own_intro h3); iexact R3
  isplitl [R4]; · iapply (own_intro h4); iexact R4
  isplitl [R5]; · iapply (own_intro h5); iexact R5
  isplitl [R6]; · iapply (own_intro h6); iexact R6
  isplitl [R7]; · iapply (own_intro h7); iexact R7
  isplitl [R8]; · iapply (own_intro h8); iexact R8
  isplitl [R9]; · iapply (own_intro h9); iexact R9
  isplitl [R10]; · iapply (own_intro h10); iexact R10
  isplitl [R11]; · iapply (own_intro h11); iexact R11
  isplitl [R12]; · iapply (own_intro h12); iexact R12
  isplitl [R13]; · iapply (own_intro h13); iexact R13
  isplitl [R14]; · iapply (own_intro h14); iexact R14
  isplitl [R22]; · iapply (own_intro h22); iexact R22
  isplitl [R15]
  · iexists _; isplitr; swap; · iexact R15
    ipureintro
    refine (read_store arg15 f15 inb_S128x1_S128x1_0_0 (by decide) _).trans ?_
    unfold trip_run.sl.v206; rw [hr, hr1, hr2, e15]; rfl
  isplitl [R16]
  · iexists _; isplitr; swap; · iexact R16
    ipureintro
    refine (read_store arg16 f16 inb_S128x1_S128x1_0_0 (by decide) _).trans ?_
    rw [hr4, e1, e2, e21, e16]; rfl
  isplitl [R17]
  · iexists _; isplitr; swap; · iexact R17
    ipureintro
    refine (read_store arg17 f17 inb_S128x50_S128x50_0_0 (by decide) _).trans ?_
    unfold trip_run.sl.v206; rw [hr, hr1, hr2, e17]; rfl
  isplitl [R18]
  · iexists _; isplitr; swap; · iexact R18
    ipureintro
    refine (read_store arg18 f18 inb_S128x128_S128x128_0_0 (by decide) _).trans ?_
    rw [hr3, e0, e20, e8, e9]; rfl
  isplitl [R19]
  · iexists _; isplitr; swap; · iexact R19
    ipureintro
    refine (read_store arg19 f19 inb_S128x50_S128x50_0_0 (by decide) _).trans ?_
    rw [hr4, e19]; rfl
  isplitl [R20]
  · iexists _; isplitr; swap; · iexact R20
    ipureintro
    refine (read_store arg20 f20 inb_S128x128_S128x128_0_0 (by decide) _).trans ?_
    rw [hr3, e0, e20]; rfl
  iexists _; isplitr; swap; · iexact R21
  ipureintro
  refine (read_store arg21 f21 inb_S128x2_S128x2_0_0 (by decide) _).trans ?_
  unfold trip_run.sl.r_5; rw [hr4, e1, e2]; rfl

/-- The whole body, from the staged arrays and buffers holding anything, to the state after the last trip. -/
theorem sound_kernel (I : Ins F) (K : PUnit → sProp 𝕄) :
    iprop(owns (c : Thread nD τ) arg0 fullShare I.ccT ∗ owns (c : Thread nD τ) arg1 fullShare I.odx ∗ owns (c : Thread nD τ) arg2 fullShare I.ody ∗ owns (c : Thread nD τ) arg3 fullShare I.mask0 ∗ owns (c : Thread nD τ) arg4 fullShare I.g ∗ owns (c : Thread nD τ) arg5 fullShare I.initw ∗ owns (c : Thread nD τ) arg6 fullShare I.whT ∗ owns (c : Thread nD τ) arg7 fullShare I.bh ∗ owns (c : Thread nD τ) arg8 fullShare I.wvT ∗ owns (c : Thread nD τ) arg9 fullShare I.bv ∗ owns (c : Thread nD τ) arg10 fullShare I.wqT ∗ owns (c : Thread nD τ) arg11 fullShare I.bq ∗ owns (c : Thread nD τ) arg12 fullShare I.wrT ∗ owns (c : Thread nD τ) arg13 fullShare I.br ∗ owns (c : Thread nD τ) arg14 fullShare I.vm ∗ (∃ d, owns (c : Thread nD τ) arg22 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (held c arg0 arg1 arg2 arg3 arg4 arg5 arg6 arg7 arg8 arg9 arg10 arg11 arg12 arg13 arg14 arg15 arg16 arg17 arg18 arg19 arg20 arg21 arg22 I (stAt I k0_t1_loop.trips) -∗ K ⟨⟩))
      ⊢ wp frame (wpE (defs₀ (F := F)) Variants.none (c : Thread nD τ) none) Set.univ
        (cc0__decode_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__decode_kernel_eq_skeleton]; unfold cc0__decode_kernel_skel
  unfold owns
  iintro ⟨⟨%f0, %h0, R0⟩, ⟨%f1, %h1, R1⟩, ⟨%f2, %h2, R2⟩, ⟨%f3, %h3, R3⟩, ⟨%f4, %h4, R4⟩, ⟨%f5, %h5, R5⟩, ⟨%f6, %h6, R6⟩, ⟨%f7, %h7, R7⟩, ⟨%f8, %h8, R8⟩, ⟨%f9, %h9, R9⟩, ⟨%f10, %h10, R10⟩, ⟨%f11, %h11, R11⟩, ⟨%f12, %h12, R12⟩, ⟨%f13, %h13, R13⟩, ⟨%f14, %h14, R14⟩, ⟨%d22, %f22, -, R22⟩, ⟨%d15, %f15, -, R15⟩, ⟨%d16, %f16, -, R16⟩, ⟨%d17, %f17, -, R17⟩, ⟨%d18, %f18, -, R18⟩, ⟨%d19, %f19, -, R19⟩, ⟨%d20, %f20, -, R20⟩, ⟨%d21, %f21, -, R21⟩, HK⟩
  sl_exec
  have e0 := read_load h0 inb_S50x128x128_S50x128x128_0_0_0 (by decide)
  have e3 := read_load h3 inb_S128x50_S128x50_0_0 (by decide)
  have e5 := read_load h5 inb_S1x256_S1x256_0_0 (by decide)
  have e6 := read_load h6 inb_S128x128_S128x128_0_0 (by decide)
  have e7 := read_load h7 inb_S1x128_S1x128_0_0 (by decide)
  have e8 := read_load h8 inb_S256x128_S256x128_0_0 (by decide)
  have e9 := read_load h9 inb_S1x128_S1x128_0_0 (by decide)
  have e12 := read_load h12 inb_S128x128_S128x128_0_0 (by decide)
  have e13 := read_load h13 inb_S1x128_S1x128_0_0 (by decide)
  have hx : sound_kernel.sl.r c arg0 f0 = k0_pay22 I.ccT := by unfold sound_kernel.sl.r; rw [e0]
  have hb : sound_kernel.sl.r_5 c arg0 arg6 arg7 f0 f6 f7 = hbar I := by
    unfold sound_kernel.sl.r_5 sound_kernel.sl.r_3 sound_kernel.sl.r_4 sound_kernel.sl.r_1 sound_kernel.sl.r_2 hbar
    rw [hx, e0, e6, e7]
  sl_for (fun k _ => held c arg0 arg1 arg2 arg3 arg4 arg5 arg6 arg7 arg8 arg9 arg10 arg11 arg12 arg13 arg14 arg15 arg16 arg17 arg18 arg19 arg20 arg21 arg22 I (stAt I k)) $$ [R0 R1 R2 R3 R4 R5 R6 R7 R8 R9 R10 R11 R12 R13 R14 R22 R15 R16 R17 R18 R19 R20 R21]
  case region =>
    intro k acc
    rw [stAt_succ]; unfold sound_kernel.sl.prog.body_1; rw [hb]
    exact trip_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 I k (stAt I k.val)
  · show _ ⊢ held c arg0 arg1 arg2 arg3 arg4 arg5 arg6 arg7 arg8 arg9 arg10 arg11 arg12 arg13 arg14 arg15 arg16 arg17 arg18 arg19 arg20 arg21 arg22 I (init I)
    unfold held owns
    iintro ⟨⟨⟨⟨⟨⟨⟨⟨⟨⟨⟨⟨⟨⟨⟨⟨⟨⟨⟨⟨⟨⟨R0, R1⟩, R2⟩, R3⟩, R4⟩, R5⟩, R6⟩, R7⟩, R8⟩, R9⟩, R10⟩, R11⟩, R12⟩, R13⟩, R14⟩, R22⟩, R15⟩, R16⟩, R17⟩, R18⟩, R19⟩, R20⟩, R21⟩
    isplitl [R0]; · iapply (own_intro h0); iexact R0
    isplitl [R1]; · iapply (own_intro h1); iexact R1
    isplitl [R2]; · iapply (own_intro h2); iexact R2
    isplitl [R3]; · iapply (own_intro h3); iexact R3
    isplitl [R4]; · iapply (own_intro h4); iexact R4
    isplitl [R5]; · iapply (own_intro h5); iexact R5
    isplitl [R6]; · iapply (own_intro h6); iexact R6
    isplitl [R7]; · iapply (own_intro h7); iexact R7
    isplitl [R8]; · iapply (own_intro h8); iexact R8
    isplitl [R9]; · iapply (own_intro h9); iexact R9
    isplitl [R10]; · iapply (own_intro h10); iexact R10
    isplitl [R11]; · iapply (own_intro h11); iexact R11
    isplitl [R12]; · iapply (own_intro h12); iexact R12
    isplitl [R13]; · iapply (own_intro h13); iexact R13
    isplitl [R14]; · iapply (own_intro h14); iexact R14
    isplitl [R22]
    · iexists _; isplitr; swap; · iexact R22
      ipureintro
      unfold sound_kernel.sl.R22_1; rw [hx, e12, e13]; exact read_store arg22 _ inb_S50x128x128_S50x128x128_0_0_0 (by decide) _
    isplitl [R15]
    · iexists _; isplitr; swap; · iexact R15
      ipureintro
      unfold sound_kernel.sl.R15_1; exact read_store arg15 _ inb_S128x1_S128x1_0_0 (by decide) _
    isplitl [R16]
    · iexists _; isplitr; swap; · iexact R16
      ipureintro
      unfold sound_kernel.sl.R16_1; exact read_store arg16 _ inb_S128x1_S128x1_0_0 (by decide) _
    isplitl [R17]
    · iexists _; isplitr; swap; · iexact R17
      ipureintro
      unfold sound_kernel.sl.R17_1; exact read_store arg17 _ inb_S128x50_S128x50_0_0 (by decide) _
    isplitl [R18]
    · iexists _; isplitr; swap; · iexact R18
      ipureintro
      unfold sound_kernel.sl.R18_1 sound_kernel.sl.r_6; rw [hb, e5, e8, e9]; exact read_store arg18 _ inb_S128x128_S128x128_0_0 (by decide) _
    isplitl [R19]
    · iexists _; isplitr; swap; · iexact R19
      ipureintro
      unfold sound_kernel.sl.R19_1; rw [e3]; exact read_store arg19 _ inb_S128x50_S128x50_0_0 (by decide) _
    isplitl [R20]
    · iexists _; isplitr; swap; · iexact R20
      ipureintro
      unfold sound_kernel.sl.R20_1; exact read_store arg20 _ inb_S128x128_S128x128_0_0 (by decide) _
    iexists _; isplitr; swap; · iexact R21
    ipureintro
    unfold sound_kernel.sl.R21_1; exact read_store arg21 _ inb_S128x2_S128x2_0_0 (by decide) _
  · iintro %acc H
    sl_step
    iapply HK; iexact H

/-- The whole body's triple as the pipeline asks for it, over any staged arrays `x0`, … and results `r15`, `r16`, `r17`. -/
theorem run_around (I : Ins F) (HP HO : sProp 𝕄)
    (x0 : Vec F S50x128x128 .f32) (x1 : Vec F S128x50 .f32) (x2 : Vec F S128x50 .f32) (x3 : Vec F S128x50 .f32) (x4 : Vec F S50x128x50 .f32) (x5 : Vec F S1x256 .f32) (x6 : Vec F S128x128 .f32) (x7 : Vec F S1x128 .f32) (x8 : Vec F S256x128 .f32) (x9 : Vec F S1x128 .f32) (x10 : Vec F S128x128 .f32) (x11 : Vec F S1x128 .f32) (x12 : Vec F S128x128 .f32) (x13 : Vec F S1x128 .f32) (x14 : Vec F S128x50 .f32)
    (r15 : Vec F S128x1 .f32) (r16 : Vec F S128x1 .f32) (r17 : Vec F S128x50 .i32)
    (h0 : I.ccT = x0) (h1 : I.odx = x1) (h2 : I.ody = x2) (h3 : I.mask0 = x3) (h4 : I.g = x4) (h5 : I.initw = x5) (h6 : I.whT = x6) (h7 : I.bh = x7) (h8 : I.wvT = x8) (h9 : I.bv = x9) (h10 : I.wqT = x10) (h11 : I.bq = x11) (h12 : I.wrT = x12) (h13 : I.br = x13) (h14 : I.vm = x14)
    (h15 : (stAt I k0_t1_loop.trips).logp = r15) (h16 : (stAt I k0_t1_loop.trips).rew = r16) (h17 : (stAt I k0_t1_loop.trips).act = r17)
    {δ0 δ1 δ2 δ3 δ4 δ5 δ6 δ7 δ8 δ9 δ10 δ11 δ12 δ13 δ14 δ15 δ16 δ17 : Type}
    (b15 : δ15 → Vec F S128x1 .f32) (b16 : δ16 → Vec F S128x1 .f32) (b17 : δ17 → Vec F S128x50 .i32) :
    iprop(((((∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) ∗ HP) ∗ HO
        ∗ (∃ d : δ0, owns (c : Thread nD τ) arg0 fullShare x0) ∗ (∃ d : δ1, owns (c : Thread nD τ) arg1 fullShare x1) ∗ (∃ d : δ2, owns (c : Thread nD τ) arg2 fullShare x2) ∗ (∃ d : δ3, owns (c : Thread nD τ) arg3 fullShare x3) ∗ (∃ d : δ4, owns (c : Thread nD τ) arg4 fullShare x4) ∗ (∃ d : δ5, owns (c : Thread nD τ) arg5 fullShare x5) ∗ (∃ d : δ6, owns (c : Thread nD τ) arg6 fullShare x6) ∗ (∃ d : δ7, owns (c : Thread nD τ) arg7 fullShare x7) ∗ (∃ d : δ8, owns (c : Thread nD τ) arg8 fullShare x8) ∗ (∃ d : δ9, owns (c : Thread nD τ) arg9 fullShare x9) ∗ (∃ d : δ10, owns (c : Thread nD τ) arg10 fullShare x10) ∗ (∃ d : δ11, owns (c : Thread nD τ) arg11 fullShare x11) ∗ (∃ d : δ12, owns (c : Thread nD τ) arg12 fullShare x12) ∗ (∃ d : δ13, owns (c : Thread nD τ) arg13 fullShare x13) ∗ (∃ d : δ14, owns (c : Thread nD τ) arg14 fullShare x14)
        ∗ (∃ d : δ15, owns (c : Thread nD τ) arg15 fullShare (b15 d)) ∗ (∃ d : δ16, owns (c : Thread nD τ) arg16 fullShare (b16 d)) ∗ (∃ d : δ17, owns (c : Thread nD τ) arg17 fullShare (b17 d))))
      ⊢ wp frame (wpE (defs₀ (F := F)) Variants.none (c : Thread nD τ) none) Set.univ
        (cc0__decode_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(((((∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) ∗ HP) ∗ HO
        ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ owns (c : Thread nD τ) arg15 fullShare r15 ∗ owns (c : Thread nD τ) arg16 fullShare r16 ∗ owns (c : Thread nD τ) arg17 fullShare r17))) := by
  subst h0 h1 h2 h3 h4 h5 h6 h7 h8 h9 h10 h11 h12 h13 h14 h15 h16 h17
  have key := fun K => sound_kernel c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 I K
  unfold held at key
  exact around (fun K => wp frame (wpE (defs₀ (F := F)) Variants.none (c : Thread nD τ) none) Set.univ
      (cc0__decode_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K)
    (owns (c : Thread nD τ) arg0 fullShare I.ccT) (owns (c : Thread nD τ) arg1 fullShare I.odx) (owns (c : Thread nD τ) arg2 fullShare I.ody) (owns (c : Thread nD τ) arg3 fullShare I.mask0) (owns (c : Thread nD τ) arg4 fullShare I.g) (owns (c : Thread nD τ) arg5 fullShare I.initw) (owns (c : Thread nD τ) arg6 fullShare I.whT) (owns (c : Thread nD τ) arg7 fullShare I.bh) (owns (c : Thread nD τ) arg8 fullShare I.wvT) (owns (c : Thread nD τ) arg9 fullShare I.bv) (owns (c : Thread nD τ) arg10 fullShare I.wqT) (owns (c : Thread nD τ) arg11 fullShare I.bq) (owns (c : Thread nD τ) arg12 fullShare I.wrT) (owns (c : Thread nD τ) arg13 fullShare I.br) (owns (c : Thread nD τ) arg14 fullShare I.vm) HP HO
    (fun x => owns (c : Thread nD τ) arg18 fullShare x) (fun x => owns (c : Thread nD τ) arg19 fullShare x) (fun x => owns (c : Thread nD τ) arg20 fullShare x) (fun x => owns (c : Thread nD τ) arg21 fullShare x) (fun x => owns (c : Thread nD τ) arg22 fullShare x) (fun x => owns (c : Thread nD τ) arg15 fullShare x) (fun x => owns (c : Thread nD τ) arg16 fullShare x) (fun x => owns (c : Thread nD τ) arg17 fullShare x) b15 b16 b17
    (stAt I k0_t1_loop.trips).query (stAt I k0_t1_loop.trips).mask (stAt I k0_t1_loop.trips).inith (stAt I k0_t1_loop.trips).last (ref3 I)
    (stAt I k0_t1_loop.trips).logp (stAt I k0_t1_loop.trips).rew (stAt I k0_t1_loop.trips).act key

end Run

/-! ## The proof data -/

variable (m : (ℓ : Loc nD τ sig) → Buf (Elt F) ℓ) (ρ : Dev nD → PrngReg)

/-- The arrays the body reads, from the arrays the call finds. -/
def insOf (c : Dev nD) (t : Fin cfg0.N) : Ins F where
  ccT := iblk m c 0 t
  odx := iblk m c 1 t
  ody := iblk m c 2 t
  mask0 := iblk m c 3 t
  g := iblk m c 4 t
  initw := iblk m c 5 t
  whT := iblk m c 6 t
  bh := iblk m c 7 t
  wvT := iblk m c 8 t
  bv := iblk m c 9 t
  wqT := iblk m c 10 t
  bq := iblk m c 11 t
  wrT := iblk m c 12 t
  br := iblk m c 13 t
  vm := iblk m c 14 t

/-- The state the loop leaves. -/
def finalSt (c : Dev nD) (t : Fin cfg0.N) : St F := stAt (insOf m c t) k0_t1_loop.trips

/-- The proof data: each array read is left as found, each result array's buffer holds the final state's component. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (finalSt m c t).logp
    | ⟨16, _⟩ => (finalSt m c t).rew
    | ⟨17, _⟩ => (finalSt m c t).act
    | ⟨n + 18, h⟩ => absurd h (Nat.not_lt.mpr (Nat.le_add_left 18 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem ins_0 (c : Dev nD) (t : Fin cfg0.N) : (insOf m c t).ccT = iblk m c 0 t := by dsimp only [insOf]
theorem ins_1 (c : Dev nD) (t : Fin cfg0.N) : (insOf m c t).odx = iblk m c 1 t := by dsimp only [insOf]
theorem ins_2 (c : Dev nD) (t : Fin cfg0.N) : (insOf m c t).ody = iblk m c 2 t := by dsimp only [insOf]
theorem ins_3 (c : Dev nD) (t : Fin cfg0.N) : (insOf m c t).mask0 = iblk m c 3 t := by dsimp only [insOf]
theorem ins_4 (c : Dev nD) (t : Fin cfg0.N) : (insOf m c t).g = iblk m c 4 t := by dsimp only [insOf]
theorem ins_5 (c : Dev nD) (t : Fin cfg0.N) : (insOf m c t).initw = iblk m c 5 t := by dsimp only [insOf]
theorem ins_6 (c : Dev nD) (t : Fin cfg0.N) : (insOf m c t).whT = iblk m c 6 t := by dsimp only [insOf]
theorem ins_7 (c : Dev nD) (t : Fin cfg0.N) : (insOf m c t).bh = iblk m c 7 t := by dsimp only [insOf]
theorem ins_8 (c : Dev nD) (t : Fin cfg0.N) : (insOf m c t).wvT = iblk m c 8 t := by dsimp only [insOf]
theorem ins_9 (c : Dev nD) (t : Fin cfg0.N) : (insOf m c t).bv = iblk m c 9 t := by dsimp only [insOf]
theorem ins_10 (c : Dev nD) (t : Fin cfg0.N) : (insOf m c t).wqT = iblk m c 10 t := by dsimp only [insOf]
theorem ins_11 (c : Dev nD) (t : Fin cfg0.N) : (insOf m c t).bq = iblk m c 11 t := by dsimp only [insOf]
theorem ins_12 (c : Dev nD) (t : Fin cfg0.N) : (insOf m c t).wrT = iblk m c 12 t := by dsimp only [insOf]
theorem ins_13 (c : Dev nD) (t : Fin cfg0.N) : (insOf m c t).br = iblk m c 13 t := by dsimp only [insOf]
theorem ins_14 (c : Dev nD) (t : Fin cfg0.N) : (insOf m c t).vm = iblk m c 14 t := by dsimp only [insOf]
theorem ins_15 (c : Dev nD) (t : Fin cfg0.N) : (stAt (insOf m c t) k0_t1_loop.trips).logp = (finalSt m c t).logp := by unfold finalSt; with_reducible rfl
theorem ins_16 (c : Dev nD) (t : Fin cfg0.N) : (stAt (insOf m c t) k0_t1_loop.trips).rew = (finalSt m c t).rew := by unfold finalSt; with_reducible rfl
theorem ins_17 (c : Dev nD) (t : Fin cfg0.N) : (stAt (insOf m c t) k0_t1_loop.trips).act = (finalSt m c t).act := by unfold finalSt; with_reducible rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (finalSt m c t).logp := by dsimp only [dats]
theorem after0_16 (c : Dev nD) (t : Fin cfg0.N) : (dats m 0 c).after 16 t = (finalSt m c t).rew := by dsimp only [dats]
theorem after0_17 (c : Dev nD) (t : Fin cfg0.N) : (dats m 0 c).after 17 t = (finalSt m c t).act := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

omit [FloatOps F] in
/-- A scratch buffer at some contents, as the body's whole memref names it. -/
theorem scratch_any (c : Dev nD) (b : Ref sig .tc) :
    (iprop(∃ d, owns (c : Thread nD τ) (Memref.whole b) fullShare d) : sProp 𝕄)
      = iprop(∃ f : Buf (Elt F) ((c : Thread nD τ).loc b), ((c : Thread nD τ).loc b) ↦{fullShare} f) := by
  congr 1; funext f; exact owns_whole (c : Thread nD τ) b fullShare f

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  unfold Pipeline.ΦA
  rw [scopedRest0_eq]
  rw [← scratch_any c cc0_scratch0, ← scratch_any c cc0_scratch1, ← scratch_any c cc0_scratch2, ← scratch_any c cc0_scratch3, ← scratch_any c cc0_scratch4]
  exact run_around c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (st0_13 t) (hstage0_13 0) (st0_14 t) (hstage0_14 0) (st0_15 t) (hstage0_15 0) (st0_16 t) (hstage0_16 0) (st0_17 t) (hstage0_17 0)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (insOf m c t) _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (finalSt m c t).logp (finalSt m c t).rew (finalSt m c t).act
    (ins_0 m c t) (ins_1 m c t) (ins_2 m c t) (ins_3 m c t) (ins_4 m c t) (ins_5 m c t) (ins_6 m c t) (ins_7 m c t) (ins_8 m c t) (ins_9 m c t) (ins_10 m c t) (ins_11 m c t) (ins_12 m c t) (ins_13 m c t) (ins_14 m c t) (ins_15 m c t) (ins_16 m c t) (ins_17 m c t) ((dats m 0 c).before 15 t) ((dats m 0 c).before 16 t) ((dats m 0 c).before 17 t)

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation about the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends with every counter at zero, and with the arrays at what the proof data says. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.KernelIdeal.Decode

end
-- ==== Proof.RefRun.lean ====
/-
  The reference as a run: which of its buffers no operation writes, and its frame.
-/
module

public import proofs.«01_k».proof.Proof.Gen.ReferenceIdeal.Run
public import Idealize.ShloMosaic.Lib.Quiescent

@[expose] public section

set_option maxRecDepth 16384

noncomputable section

namespace Cert.ReferenceIdeal.Decode

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The buffers that one trip of the loop writes. -/
def bodyW : List (Ref sig .tc) := while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W ++ while0Ops0_13_W ++ while0Ops0_14_W ++ while0Ops0_15_W ++ while0Ops0_16_W ++ while0Ops0_17_W ++ while0Ops0_18_W ++ while0Ops0_19_W ++ while0Ops0_20_W ++ while0Ops0_21_W ++ while0Ops0_22_W ++ while0Ops0_23_W

/-- A buffer that a trip does not write keeps its contents through the trip. -/
theorem trip_keeps {r : Ref sig .tc} (h : r ∉ bodyW) (hc : r ∉ condOps_W) (V : Valuation τ sig (Elt F)) :
    afterL bodyI (after condOps V) (Proc.devRef .tc r) = V (Proc.devRef .tc r) := by
  unfold bodyW at h
  simp only [List.mem_append, not_or] at h
  obtain ⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩ := h
  simp only [afterL_cons, afterL_nil]
  rw [after_of_writes_sub while0Ops0_23 _ while0Ops0_23_writes h23,
    after_of_writes_sub while0Ops0_22 _ while0Ops0_22_writes h22,
    after_of_writes_sub while0Ops0_21 _ while0Ops0_21_writes h21,
    after_of_writes_sub while0Ops0_20 _ while0Ops0_20_writes h20,
    after_of_writes_sub while0Ops0_19 _ while0Ops0_19_writes h19,
    after_of_writes_sub while0Ops0_18 _ while0Ops0_18_writes h18,
    after_of_writes_sub while0Ops0_17 _ while0Ops0_17_writes h17,
    after_of_writes_sub while0Ops0_16 _ while0Ops0_16_writes h16,
    after_of_writes_sub while0Ops0_15 _ while0Ops0_15_writes h15,
    after_of_writes_sub while0Ops0_14 _ while0Ops0_14_writes h14,
    after_of_writes_sub while0Ops0_13 _ while0Ops0_13_writes h13,
    after_of_writes_sub while0Ops0_12 _ while0Ops0_12_writes h12,
    after_of_writes_sub while0Ops0_11 _ while0Ops0_11_writes h11,
    after_of_writes_sub while0Ops0_10 _ while0Ops0_10_writes h10,
    after_of_writes_sub while0Ops0_9 _ while0Ops0_9_writes h9,
    after_of_writes_sub while0Ops0_8 _ while0Ops0_8_writes h8,
    after_of_writes_sub while0Ops0_7 _ while0Ops0_7_writes h7,
    after_of_writes_sub while0Ops0_6 _ while0Ops0_6_writes h6,
    after_of_writes_sub while0Ops0_5 _ while0Ops0_5_writes h5,
    after_of_writes_sub while0Ops0_4 _ while0Ops0_4_writes h4,
    after_of_writes_sub while0Ops0_3 _ while0Ops0_3_writes h3,
    after_of_writes_sub while0Ops0_2 _ while0Ops0_2_writes h2,
    after_of_writes_sub while0Ops0_1 _ while0Ops0_1_writes h1,
    after_of_writes_sub while0Ops0 _ while0Ops0_writes h0,
    after_of_writes_sub condOps _ condOps_writes hc]

variable (m : (ℓ : Loc nD τ sig) → Buf (Elt F) ℓ) (ρ : Dev nD → PrngReg)

/-- A buffer that no trip writes holds before every trip what it held at the loop's entry. -/
theorem atK_keeps {r : Ref sig .tc} (h : r ∉ bodyW) (hc : r ∉ condOps_W) (c : Dev nD) :
    ∀ k, atK m k c (Proc.devRef .tc r) = entryContents preI m c (Proc.devRef .tc r)
  | 0 => rfl
  | k + 1 => (trip_keeps h hc _).trans (atK_keeps h hc c k)

/-- A buffer that nothing writes ends as it began. -/
theorem final_keeps {r : Ref sig .tc} (h : r ∉ bodyW) (hc : r ∉ condOps_W) (h0 : r ∉ hostOps0_W) (h1 : r ∉ hostOps0_1_W) (c : Dev nD) :
    finalContents condOps preI bodyI postI 50 m c (Proc.devRef .tc r) = m ((c.tc : Thread nD τ).loc r) := by
  have e : atTrip condOps bodyI (entryContents preI m) 50 c (Proc.devRef .tc r) = _ := atK_keeps m h hc c 50
  simp only [finalContents, entryContents, afterL_cons, afterL_nil] at e ⊢
  rw [after_of_writes_sub hostOps0_1 _ hostOps0_1_writes h1, after_of_writes_sub condOps _ condOps_writes hc, e,
    after_of_writes_sub hostOps0 _ hostOps0_writes h0]

/-- Every run of the reference ends, with every counter at zero and every array at its final contents. -/
theorem run : θ_run defs (onTc (τ := τ) (main (F := F))) ⟨m, fun _ => 0, ρ⟩ (fun r => (∀ (c : Dev nD) (b : Ref sig .tc),
      (Proc.devRef .tc b : DevRef τ sig).isScoped = false →
      r.2.mem ((c.tc : Thread nD τ).loc b) = finalContents condOps preI bodyI postI 50 m c (Proc.devRef .tc b))
    ∧ r.2.sem = fun _ => 0) :=
  (θ_run defs _ _).mono (fun r h => ⟨h, sem_eq_zero_of_no_sems (by decide) r.2⟩) (run_fold m ρ)

/-- The frame: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  have keeps := fun (b : Ref sig .tc) h hc h0 h1 (r : PUnit × MemSt nD τ sig (Elt F))
      (hr : ∀ (c : Dev nD) (b : Ref sig .tc), (Proc.devRef .tc b : DevRef τ sig).isScoped = false →
        r.2.mem ((c.tc : Thread nD τ).loc b) = finalContents condOps preI bodyI postI 50 m c (Proc.devRef .tc b)) (hs) (c : Dev nD) =>
    (hr c b hs).trans (final_keeps m h hc h0 h1 c)
  refine (θ_run defs _ _).mono (fun r h => ⟨fun c => ⟨?_, ?_, ?_, ?_, ?_, ?_, ?_, ?_, ?_, ?_, ?_, ?_, ?_⟩, h.2⟩) (run m ρ)
  all_goals exact keeps _ (by decide +kernel) (by decide +kernel) (by decide +kernel) (by decide +kernel) _ h.1 (by decide) c

end Cert.ReferenceIdeal.Decode

end
-- ==== Proof.Pick.lean ====
/-
  Reads at one index of the two ways in which the programs choose a position and take its entries: the reference's arg-max,
  gathers, scatter and slices at a running position, and the kernel's least position of a maximum and one-hot sums.
-/
module

public import proofs.«01_k».proof.Proof.Gen.ReferenceIdeal.Run
public import Idealize.ShloMosaic.Lib.Pointwise
public import Idealize.ShloMosaic.Lib.Routing.OpsPair
public import Idealize.ShloMosaic.Lib.Routing.OpsSet
public import Idealize.ShloMosaic.Lib.DynamicIndex

@[expose] public section

set_option maxRecDepth 16384

noncomputable section

namespace Cert.Pick

open Idealize.ShloMosaic Idealize.ShloMosaic.TcCoe
open Cert.ReferenceIdeal Cert.ReferenceIdeal.Gen

/-! ### The order on (score, position) pairs -/

/-- One step of the reference's arg-max keeps one of its two pairs, and the kept pair is not beaten by the other. -/
theorem reducer_cases (p q : EReal × BitVec 32) :
    (reducer_argmax_f32_i32 (F := Ideal) p q = p ∧ (q.1 < p.1 ∨ q.1 = p.1 ∧ p.2.toInt ≤ q.2.toInt))
      ∨ (reducer_argmax_f32_i32 (F := Ideal) p q = q ∧ (p.1 < q.1 ∨ p.1 = q.1 ∧ q.2.toInt ≤ p.2.toInt)) := by
  obtain ⟨a, i⟩ := p
  obtain ⟨b, j⟩ := q
  rcases lt_trichotomy a b with h | h | h
  · right
    simp [reducer_argmax_f32_i32, Scalar.select, IntOp.ori, IntOp.andi, FloatOps.cmpf, Ideal.cmp, h, h.ne, h.le, not_lt_of_gt h]
  · subst h
    by_cases hij : i.toInt < j.toInt
    · left
      simp [reducer_argmax_f32_i32, Scalar.select, IntOp.ori, IntOp.andi, FloatOps.cmpf, Ideal.cmp, IntOp.cmpi, BitVec.slt, hij, hij.le]
    · right
      simp [reducer_argmax_f32_i32, Scalar.select, IntOp.ori, IntOp.andi, FloatOps.cmpf, Ideal.cmp, IntOp.cmpi, BitVec.slt, hij, not_lt.1 hij]
  · left
    simp [reducer_argmax_f32_i32, Scalar.select, IntOp.ori, IntOp.andi, FloatOps.cmpf, Ideal.cmp, h, h.ne', h.le]

/-- `q` does not beat `p`. -/
def Le (q p : EReal × BitVec 32) : Prop := q.1 < p.1 ∨ q.1 = p.1 ∧ p.2.toInt ≤ q.2.toInt

theorem Le.trans {a b c : EReal × BitVec 32} (h : Le a b) (h' : Le b c) : Le a c := by
  rcases h with h | ⟨h, i⟩ <;> rcases h' with h' | ⟨h', i'⟩
  · exact .inl (h.trans h')
  · exact .inl (h.trans_eq h')
  · exact .inl (h.trans_lt h')
  · exact .inr ⟨h.trans h', i'.trans i⟩

theorem Le.refl (a : EReal × BitVec 32) : Le a a := .inr ⟨rfl, le_refl _⟩

/-- The fold of the arg-max over a list is one of its pairs or the initial one, and none of them beats it. -/
theorem foldl_argmax (l : List (EReal × BitVec 32)) (p : EReal × BitVec 32) :
    (l.foldl (reducer_argmax_f32_i32 (F := Ideal)) p = p ∨ l.foldl (reducer_argmax_f32_i32 (F := Ideal)) p ∈ l)
      ∧ Le p (l.foldl (reducer_argmax_f32_i32 (F := Ideal)) p)
      ∧ ∀ q ∈ l, Le q (l.foldl (reducer_argmax_f32_i32 (F := Ideal)) p) := by
  induction l generalizing p with
  | nil => exact ⟨.inl rfl, Le.refl p, fun _ h => nomatch h⟩
  | cons a l ih =>
    rw [List.foldl_cons]
    obtain ⟨h1, h2, h3⟩ := ih (reducer_argmax_f32_i32 (F := Ideal) p a)
    rcases reducer_cases p a with ⟨e, h⟩ | ⟨e, h⟩ <;> rw [e] at h1 h2 h3 ⊢
    · refine ⟨h1.imp id (List.mem_cons_of_mem _), h2, fun q hq => ?_⟩
      rcases List.mem_cons.1 hq with rfl | hq
      · exact Le.trans h h2
      · exact h3 q hq
    · refine ⟨.inr ?_, Le.trans h h2, fun q hq => ?_⟩
      · rcases h1 with h1 | h1
        · rw [h1]; exact List.mem_cons_self
        · exact List.mem_cons_of_mem _ h1
      · rcases List.mem_cons.1 hq with rfl | hq
        · exact h2
        · exact h3 q hq

theorem toInt_small (n : Fin 50) : (BitVec.ofNat 32 n.val).toInt = n.val := by
  have := n.isLt
  rw [BitVec.toInt_eq_toNat_cond, BitVec.toNat_ofNat]; omega

theorem ninf : Ideal.ofBits .f32 4286578688#32 = ⊥ := by
  simp [Ideal.ofBits, Ideal.ieee]

/-- The reference's arg-max of a row: the first position of its greatest entry. -/
theorem argmax_row (x : FVec Ideal S128x50 .f32) (h : S128x50.ReducesTo [1] S128) (hu : 0 < S_.numel) (b : Fin 128) :
    ∃ n : Fin 50, (Host.argReduce reducer_argmax_f32_i32 x (iotaInDim S128x50 32 1) (constant S_ .f32 4286578688#32)
        (constantI S_ 32 0#32) h hu (ix1 b)).2 = BitVec.ofNat 32 n.val
      ∧ (∀ c, x (ix2 b c) ≤ x (ix2 b n)) ∧ ∀ c : Fin 50, x (ix2 b c) = x (ix2 b n) → n ≤ c := by
  have hd : ∀ (b' : Fin 128) (c : Fin 50), h.drop (ix2 b' c) = ix1 b' := fun b' c => by
    funext a
    match a with
    | ⟨0, _⟩ => exact Fin.ext rfl
  rw [Ideal.argReduce_eq_reduce2, Host.reduce2_eq_foldl_fiber]
  obtain ⟨h1, h2, h3⟩ := foldl_argmax (Host.argReduceFiber x (iotaInDim S128x50 32 1) h (ix1 b))
    ((constant S_ .f32 4286578688#32 : FVec Ideal S_ .f32) (Shape.Idx.first hu), (constantI S_ 32 0#32) (Shape.Idx.first hu))
  generalize hp : List.foldl (reducer_argmax_f32_i32 (F := Ideal)) _ _ = p at h1 h2 h3 ⊢
  have mem : ∀ c : Fin 50, (x (ix2 b c), BitVec.ofNat 32 c.val) ∈ Host.argReduceFiber x (iotaInDim S128x50 32 1) h (ix1 b) := fun c => by
    refine List.mem_map.2 ⟨S128x50.rowMajor (ix2 b c), ?_, ?_⟩
    · simp [hd]
    · simp [iotaInDim]
  have mem' : ∀ q ∈ Host.argReduceFiber x (iotaInDim S128x50 32 1) h (ix1 b), ∃ c : Fin 50, q = (x (ix2 b c), BitVec.ofNat 32 c.val) := fun q hq => by
    obtain ⟨n, hn, rfl⟩ := List.mem_map.1 hq
    have hn := (List.mem_filter.1 hn).2
    generalize S128x50.rowMajor.symm n = i at hn ⊢
    obtain ⟨b', c, rfl⟩ : ∃ (b' : Fin 128) (c : Fin 50), i = ix2 b' c :=
      ⟨i 0, i 1, funext fun a => by match a with | ⟨0, _⟩ => rfl | ⟨1, _⟩ => rfl⟩
    rw [hd] at hn
    have : b' = b := congrFun (of_decide_eq_true hn) 0
    subst this
    exact ⟨c, rfl⟩
  obtain ⟨n, hn⟩ : ∃ n : Fin 50, p = (x (ix2 b n), BitVec.ofNat 32 n.val) := by
    rcases h1 with h1 | h1
    · refine ⟨0, ?_⟩
      have hp0 : p = ((⊥ : EReal), 0#32) := h1.trans (Prod.ext ninf rfl)
      have := h3 _ (mem 0)
      rw [hp0] at this ⊢
      rcases this with this | ⟨this, _⟩
      · exact absurd this not_lt_bot
      · exact Prod.ext this.symm rfl
    · exact mem' p h1
  subst hn
  refine ⟨n, rfl, fun c => ?_, fun c hc => ?_⟩
  · rcases h3 _ (mem c) with h | h
    · exact le_of_lt h
    · exact le_of_eq h.1
  · rcases h3 _ (mem c) with h | h
    · exact absurd hc (ne_of_lt h)
    · have := h.2
      simp only [toInt_small] at this
      exact Fin.le_def.2 (by exact_mod_cast this)

/-- The kernel's least position of a row's maximum, as a position with the same two properties. -/
theorem least_of_max (f : Fin 50 → EReal) (n : Fin 50) (h1 : ∀ c, f c ≤ f n) (h2 : ∀ c, f c = f n → n ≤ c) :
    Finset.fold IntOp.minsi 2147483647#32
        (fun c : Fin 50 => if f c = Finset.fold max (Ideal.ofBits .f32 4286578688#32) f Finset.univ then BitVec.ofNat 32 c.val else 50#32) Finset.univ
      = BitVec.ofNat 32 n.val := by
  have hm : Finset.fold max (Ideal.ofBits .f32 4286578688#32) f Finset.univ = f n := by
    apply le_antisymm
    · rw [Finset.fold_max_le]; exact ⟨by rw [ninf]; exact bot_le, fun c _ => h1 c⟩
    · rw [Finset.le_fold_max]; exact .inr ⟨n, Finset.mem_univ _, le_refl _⟩
  rw [hm]
  apply BitVec.eq_of_toInt_eq
  have hf : (Finset.fold IntOp.minsi 2147483647#32 (fun c : Fin 50 => if f c = f n then BitVec.ofNat 32 c.val else 50#32) Finset.univ).toInt
      = Finset.fold min ((2147483647#32 : BitVec 32).toInt) (fun c : Fin 50 => (if f c = f n then BitVec.ofNat 32 c.val else 50#32 : BitVec 32).toInt) Finset.univ := by
    refine (Finset.fold_hom (op := IntOp.minsi) (op' := min) (m := BitVec.toInt) fun a b => ?_).symm
    unfold IntOp.minsi
    by_cases h : a.toInt < b.toInt
    · rw [if_pos (by simpa [BitVec.slt] using h), min_eq_left h.le]
    · rw [if_neg (by simpa [BitVec.slt] using h), min_eq_right (not_lt.1 h)]
  rw [hf, toInt_small]
  apply le_antisymm
  · rw [Finset.fold_min_le]
    exact .inr ⟨n, Finset.mem_univ _, by rw [if_pos rfl, toInt_small]⟩
  · rw [Finset.le_fold_min]
    have := n.isLt
    refine ⟨by rw [show (2147483647#32 : BitVec 32).toInt = 2147483647 from rfl]; omega, fun c _ => ?_⟩
    split
    · next h => rw [toInt_small]; exact_mod_cast h2 c h
    · rw [show (50#32 : BitVec 32).toInt = 50 from rfl]; omega

/-! ### Taking the entries at a position -/

/-- The entry of a row at a position, as the reference gathers it. -/
theorem gather_word {α : Type} (x : S128x50.Idx → α) (w : IVec S128x1x1 32) (b : Fin 128) (n : Fin 50)
    (h : w (ix3 b 0 0) = BitVec.ofNat 32 n.val) :
    Host.gather gather_S128x50_S128x1x1_S128x1_n_1_0_0_1_2_11 x w (ix2 b 0) = x (ix2 b n) := by
  refine congrArg x (funext fun a => Fin.ext ?_)
  match a with
  | ⟨0, _⟩ => show 0 + b.val + 0 = b.val; omega
  | ⟨1, _⟩ =>
    have hs : GatherDims.siIdx gather_S128x50_S128x1x1_S128x1_n_1_0_0_1_2_11 (ix2 b 0) ⟨0, by decide⟩ = ix3 b 0 0 := by
      funext a; match a with | ⟨0, _⟩ => rfl | ⟨1, _⟩ => rfl | ⟨2, _⟩ => rfl
    change min (w (GatherDims.siIdx gather_S128x50_S128x1x1_S128x1_n_1_0_0_1_2_11 (ix2 b 0) ⟨0, by decide⟩)).toInt.toNat 49 + 0 + 0 = n.val
    rw [hs, h, toInt_small]
    have := n.isLt
    omega

/-- The entries of a point at a position, as the reference gathers them. -/
theorem gather_pair {α : Type} (x : S128x50x2.Idx → α) (w : IVec S128x1x2x1 32) (b : Fin 128) (d : Fin 2) (n : Fin 50)
    (h : w (ix4 b 0 d 0) = BitVec.ofNat 32 n.val) :
    Host.gather gather_S128x50x2_S128x1x2x1_S128x1x2_n_1_02_02_1_3_111 x w (ix3 b 0 d) = x (ix3 b n d) := by
  refine congrArg x (funext fun a => Fin.ext ?_)
  match a with
  | ⟨0, _⟩ => show 0 + b.val + 0 = b.val; omega
  | ⟨1, _⟩ =>
    have hs : GatherDims.siIdx gather_S128x50x2_S128x1x2x1_S128x1x2_n_1_02_02_1_3_111 (ix3 b 0 d) ⟨0, by decide⟩ = ix4 b 0 d 0 := by
      funext a; match a with | ⟨0, _⟩ => rfl | ⟨1, _⟩ => rfl | ⟨2, _⟩ => rfl | ⟨3, _⟩ => rfl
    change min (w (GatherDims.siIdx gather_S128x50x2_S128x1x2x1_S128x1x2_n_1_02_02_1_3_111 (ix3 b 0 d) ⟨0, by decide⟩)).toInt.toNat 49 + 0 + 0 = n.val
    rw [hs, h, toInt_small]
    have := n.isLt
    omega
  | ⟨2, _⟩ => show 0 + d.val + 0 = d.val; omega

/-- The entries of an embedding at a position, as the reference gathers them. -/
theorem gather_emb {α : Type} (x : S128x50x128.Idx → α) (w : IVec S128x1x128x1 32) (b : Fin 128) (d : Fin 128) (n : Fin 50)
    (h : w (ix4 b 0 d 0) = BitVec.ofNat 32 n.val) :
    Host.gather gather_S128x50x128_S128x1x128x1_S128x1x128_n_1_02_02_1_3_111 x w (ix3 b 0 d) = x (ix3 b n d) := by
  refine congrArg x (funext fun a => Fin.ext ?_)
  match a with
  | ⟨0, _⟩ => show 0 + b.val + 0 = b.val; omega
  | ⟨1, _⟩ =>
    have hs : GatherDims.siIdx gather_S128x50x128_S128x1x128x1_S128x1x128_n_1_02_02_1_3_111 (ix3 b 0 d) ⟨0, by decide⟩ = ix4 b 0 d 0 := by
      funext a; match a with | ⟨0, _⟩ => rfl | ⟨1, _⟩ => rfl | ⟨2, _⟩ => rfl | ⟨3, _⟩ => rfl
    change min (w (GatherDims.siIdx gather_S128x50x128_S128x1x128x1_S128x1x128_n_1_02_02_1_3_111 (ix3 b 0 d) ⟨0, by decide⟩)).toInt.toNat 49 + 0 + 0 = n.val
    rw [hs, h, toInt_small]
    have := n.isLt
    omega
  | ⟨2, _⟩ => show 0 + d.val + 0 = d.val; omega

/-- The mask with every row's position set, as the reference scatters it. -/
theorem scatter_rows {α : Type} (x : S128x50.Idx → α) (w : IVec S128x2 32) (u : S128.Idx → α) (v : α) (hu : ∀ k, u k = v)
    (n : Fin 128 → Fin 50) (h0 : ∀ b, w (ix2 b 0) = BitVec.ofNat 32 b.val) (h1 : ∀ b, w (ix2 b 1) = BitVec.ofNat 32 (n b).val)
    (b : Fin 128) (c : Fin 50) :
    Host.scatter scatter_S128x50_S128x2_S128_n_01_01_1 (fun _ y => y) x w u (ix2 b c) = if c = n b then v else x (ix2 b c) := by
  have land : ∀ k : Fin 128, ScatterDims.resultIdx? scatter_S128x50_S128x2_S128_n_01_01_1 (ix1 k) w = some (ix2 b c) ↔ k = b ∧ c = n k := fun k => by
    have hs0 : ScatterDims.siIdx scatter_S128x50_S128x2_S128_n_01_01_1 (ix1 k) ⟨0, by decide⟩ = ix2 k 0 := by
      funext a; match a with | ⟨0, _⟩ => rfl | ⟨1, _⟩ => rfl
    have hs1 : ScatterDims.siIdx scatter_S128x50_S128x2_S128_n_01_01_1 (ix1 k) ⟨1, by decide⟩ = ix2 k 1 := by
      funext a; match a with | ⟨0, _⟩ => rfl | ⟨1, _⟩ => rfl
    have hk : (BitVec.ofNat 32 k.val).toInt = k.val := by
      have := k.isLt
      rw [BitVec.toInt_eq_toNat_cond, BitVec.toNat_ofNat]; omega
    refine (Routing.resultIdx?_ix2 _ _ _ _ _).trans ?_
    change (w (ScatterDims.siIdx scatter_S128x50_S128x2_S128_n_01_01_1 (ix1 k) ⟨0, by decide⟩)).toInt + ((0 : Nat) : Int) = b.val
      ∧ (w (ScatterDims.siIdx scatter_S128x50_S128x2_S128_n_01_01_1 (ix1 k) ⟨1, by decide⟩)).toInt + ((0 : Nat) : Int) = c.val ↔ _
    rw [hs0, hs1, h0, h1, hk, toInt_small, Fin.ext_iff, Fin.ext_iff]
    omega
  split
  · next h => exact Routing.scatter_set_hit _ x w u _ v (fun k _ => hu k) (ix1 b) ((land b).2 ⟨rfl, h⟩)
  · next h =>
    refine Routing.scatter_set_miss _ x w u _ fun k hk => ?_
    idx_vars k
    obtain ⟨rfl, e⟩ := (land _).1 hk
    exact h e

/-! ### Words of positions -/

theorem wrap_small (n : Fin 50) : Scalar.select (IntOp.cmpi .slt (BitVec.ofNat 32 n.val) 0#32)
    (IntOp.addi (BitVec.ofNat 32 n.val) 50#32) (BitVec.ofNat 32 n.val) = BitVec.ofNat 32 n.val := by
  revert n; decide

theorem wrap_row (n : Fin 128) : Scalar.select (IntOp.cmpi .slt (BitVec.ofNat 32 n.val) 0#32)
    (IntOp.addi (BitVec.ofNat 32 n.val) 128#32) (BitVec.ofNat 32 n.val) = BitVec.ofNat 32 n.val := by
  revert n; decide

theorem in_range (n : Fin 50) : Finset.fold IntOp.andi (1#1) (fun _ : Fin 1 =>
    IntOp.andi (IntOp.cmpi .sge (BitVec.ofNat 32 n.val) 0#32) (IntOp.cmpi .sle (BitVec.ofNat 32 n.val) 49#32)) Finset.univ = 1#1 := by
  have : IntOp.andi (IntOp.cmpi .sge (BitVec.ofNat 32 n.val) 0#32) (IntOp.cmpi .sle (BitVec.ofNat 32 n.val) 49#32) = 1#1 := by
    revert n; decide
  simp only [this]
  rfl

/-! ### Slices at a running position -/

/-- One entry of a vector of 50, read at a running position. -/
theorem take_word {α : Type} (x : S50.Idx → α) (st : Fin 1 → Int) (h : S50.Slices (fun _ => 0) S1) (k : Fin 50) (hk : st 0 = k.val) :
    Host.dynamicSlice S1 x st h (ix1 0) = x (ix1 k) := by
  refine congrArg x (funext fun a => Fin.ext ?_)
  match a with
  | ⟨0, _⟩ =>
    show (min (max (st 0) 0) ((49 : Nat) : Int)).toNat + 0 = k.val
    have := k.isLt
    rw [hk]; omega

/-- A stack of 50 rows after one row is written at a running position. -/
theorem put_row {α : Type} (x : S50x128.Idx → α) (u : S1x128.Idx → α) (st : Fin 2 → Int) (h : S50x128.Slices (fun _ => 0) S1x128)
    (k : Fin 50) (hk : st 0 = k.val) (i : Fin 50) (b : Fin 128) :
    Host.dynamicUpdateSlice x u st h (ix2 i b) = if i = k then u (ix2 0 b) else x (ix2 i b) := by
  pointwise
  have h0 : Host.clampedStart S50x128 S1x128 h.1 st 0 = k.val := by
    show (min (max (st 0) 0) ((49 : Nat) : Int)).toNat = k.val
    have := k.isLt
    rw [hk]; omega
  have h1 : Host.clampedStart S50x128 S1x128 h.1 st 1 = 0 := by
    show (min (max (st 1) 0) ((0 : Nat) : Int)).toNat = 0
    omega
  simp only [h0, h1]
  have := b.isLt
  by_cases e : i = k
  · subst e
    rw [dif_pos ⟨⟨le_refl _, Nat.lt_succ_self _⟩, Nat.zero_le _, by omega⟩, if_pos rfl]
    exact congrArg u (funext fun a => Fin.ext (by match a with | ⟨0, _⟩ => exact Nat.sub_self _ | ⟨1, _⟩ => rfl))
  · rw [if_neg e, dif_neg fun q => e (Fin.ext (by omega))]

/-! ### One-hot sums -/

theorem cmpi_eq_small {m : Nat} (hm : m < 2 ^ 32) (i j : Nat) (hi : i < m) (hj : j < m) :
    IntOp.cmpi .eq (BitVec.ofNat 32 i) (BitVec.ofNat 32 j) = if i = j then 1#1 else 0#1 := by
  have : (BitVec.ofNat 32 i = BitVec.ofNat 32 j) ↔ i = j := by
    rw [← BitVec.toNat_inj, BitVec.toNat_ofNat, BitVec.toNat_ofNat, Nat.mod_eq_of_lt (by omega), Nat.mod_eq_of_lt (by omega)]
  by_cases h : i = j
  · subst h; simp [IntOp.cmpi]
  · rw [if_neg h]
    show BitVec.ofBool (BitVec.ofNat 32 i == BitVec.ofNat 32 j) = 0#1
    rw [beq_eq_false_iff_ne.2 (fun e => h (this.1 e))]; rfl

/-- A sum of which a comparison of positions keeps one term. -/
theorem sum_pick (f : Fin 50 → EReal) (n : Fin 50) :
    (∑ c : Fin 50, Scalar.select (IntOp.cmpi .eq (BitVec.ofNat 32 c.val) (BitVec.ofNat 32 n.val)) (f c) 0) = f n := by
  rw [Finset.sum_eq_single n]
  · simp [Scalar.select, IntOp.cmpi]
  · intro c _ hc
    rw [cmpi_eq_small (m := 50) (by norm_num) _ _ c.isLt n.isLt, if_neg fun h => hc (Fin.ext h)]
    rfl
  · intro h; exact absurd (Finset.mem_univ _) h

end Cert.Pick
-- ==== Proof.KStep.lean ====
/-
  One trip of the kernel's loop, read entry by entry, once the position that each row chooses is known.
-/
module

public import proofs.«01_k».proof.Proof.IdealBody
public import proofs.«01_k».proof.Proof.Pick
public import Idealize.ShloMosaic.Lib.Pointwise

@[expose] public section

set_option maxRecDepth 16384
set_option maxHeartbeats 4000000

noncomputable section

namespace Cert.KernelIdeal.Decode

open Cert.KernelIdeal Cert.KernelIdeal.Gen
open Idealize.ShloMosaic Idealize.ShloMosaic.TcCoe

variable (I : Ins Ideal) (s : St Ideal) (k : Fin k0_t1_loop.trips) (b : Fin 128) (c : Fin 50) (e : Fin 128)

/-- The projected context rows. -/
theorem ref3_at : ref3 I (ix3 c b e) = (∑ x : Fin 128, (I.ccT (ix3 c b x) : EReal) * I.wrT (ix2 x e)) + I.br (ix2 0 e) := by
  pointwise [ref3, k0_pay30, k0_pay22]

/-- The logits: the diagonal of the product with the tiled vector is the product with the vector itself. -/
theorem logits_at (f : Fin 128 → EReal) (hf : ∀ x c, I.vm (ix2 x c) = f x) : logits I s (ix2 b c)
    = if (0 : EReal) < s.mask (ix2 b c) then Ideal.ofBits .f32 3435052064#32
      else ∑ x : Fin 128, Ideal.ofBits .f32 1092616192#32 * Ideal.tanh ((∑ y : Fin 128, (s.query (ix2 b y) : EReal) * I.wqT (ix2 y x))
        + I.bq (ix2 0 x) + ((∑ y : Fin 128, (I.ccT (ix3 c b y) : EReal) * I.wrT (ix2 y x)) + I.br (ix2 0 x))) * f x := by
  pointwise [logits, k0_pay10]
  simp only [Pick.sum_pick, hf, ref3_at]

/-- The greatest logit of a row. -/
theorem rowMax_at : rowMax I s (ix1 b) = Finset.fold max (Ideal.ofBits .f32 4286578688#32) (fun x => (logits I s (ix2 b x) : EReal)) Finset.univ := by
  unfold rowMax k0_pay11
  change (multiReduction .maximumf _ _ (logits I s) _ _ _ _) _ = _
  pointwise

/-- The probabilities. -/
def probs : FVec Ideal S128x50 .f32 := k0_pay12 (logits I s) (rowMax I s)

theorem probs_at : probs I s (ix2 b c) = Ideal.div (Ideal.exp ((logits I s (ix2 b c) : EReal) - rowMax I s (ix1 b)))
    (∑ x : Fin 50, Ideal.exp ((logits I s (ix2 b x) : EReal) - rowMax I s (ix1 b))) := by
  pointwise [probs, k0_pay12]

/-- The scores whose greatest entry is chosen. -/
def score : EReal := Ideal.log ((probs I s (ix2 b c) : EReal) + Ideal.ofBits .f32 730643660#32) + noise I k (ix2 b c)

theorem chosen_at : chosen I k s (ix2 b 0) = Finset.fold IntOp.minsi 2147483647#32
    (fun x : Fin 50 => if score I s k b x = Finset.fold max (Ideal.ofBits .f32 4286578688#32) (fun x => score I s k b x) Finset.univ
      then BitVec.ofNat 32 x.val else 50#32) Finset.univ := by
  unfold chosen
  generalize hL : logits I s = L
  generalize hM : rowMax I s = M
  generalize hN : noise I k = N
  have hs : ∀ x, score I s k b x = Ideal.log ((k0_pay12 L M (ix2 b x) : EReal) + Ideal.ofBits .f32 730643660#32) + N (ix2 b x) := fun x => by
    rw [← hL, ← hM, ← hN]; rfl
  simp only [hs]
  pointwise [k0_pay13, cols]

section Chosen

variable (n : Fin 128 → Fin 50) (hn : ∀ b, chosen I k s (ix2 b 0) = BitVec.ofNat 32 (n b).val)
include hn

theorem bits_at : chosenBits I k s (ix2 b c) = IntOp.cmpi .eq (BitVec.ofNat 32 c.val) (BitVec.ofNat 32 (n b).val) := by
  rw [← hn b]
  change k0_pay14 cols (noise I k) (logits I s) (rowMax I s) (ix2 b c) = IntOp.cmpi .eq _ (k0_pay13 cols (noise I k) (logits I s) (rowMax I s) (ix2 b 0))
  unfold k0_pay14
  generalize k0_pay13 cols (noise I k) (logits I s) (rowMax I s) = C
  pointwise [cols]

theorem step_logp : (step I k s).logp (ix2 b 0) = (s.logp (ix2 b 0) : EReal) + Ideal.log ((probs I s (ix2 b (n b)) : EReal) + Ideal.ofBits .f32 730643660#32) := by
  change k0_pay15 cols (noise I k) (logits I s) (rowMax I s) s.logp (ix2 b 0) = _
  unfold k0_pay15
  change addf _ (log (addf (shapeCast _ (multiReduction _ _ _ (select (chosenBits I k s) (probs I s) _) _ _ _ _) _) _)) (ix2 b 0) = _
  have hB := fun c => bits_at I s k b c n hn
  generalize chosenBits I k s = B at hB ⊢
  generalize probs I s = P
  pointwise
  simp only [hB, Pick.sum_pick]

theorem step_act : (step I k s).act (ix2 b c) = Scalar.select (IntOp.cmpi .eq (BitVec.ofNat 32 c.val) (tripWord k)) (BitVec.ofNat 32 (n b).val) (s.act (ix2 b c)) := by
  rw [← hn b]
  change k0_pay16 (tripWord k) cols (noise I k) (logits I s) (rowMax I s) s.act (ix2 b c) = Scalar.select _ (k0_pay13 cols (noise I k) (logits I s) (rowMax I s) (ix2 b 0)) _
  unfold k0_pay16
  generalize k0_pay13 cols (noise I k) (logits I s) (rowMax I s) = C
  pointwise [cols]

theorem step_mask : (step I k s).mask (ix2 b c) = if c = n b then Ideal.ofBits .f32 1065353216#32 else s.mask (ix2 b c) := by
  change k0_pay17 (chosenBits I k s) s.mask (ix2 b c) = _
  have hB := fun c => bits_at I s k b c n hn
  generalize chosenBits I k s = B at hB ⊢
  pointwise [k0_pay17]
  rw [hB, Pick.cmpi_eq_small (m := 50) (by norm_num) _ _ c.isLt (n b).isLt]
  simp only [Fin.ext_iff]
  split <;> rfl

theorem step_last0 : (step I k s).last (ix2 b 0) = I.odx (ix2 b (n b)) := by
  change k0_pay4 (k0_pay21 (chosenBits I k s) I.odx I.ody) (ix2 b 0) = _
  have hB := fun c => bits_at I s k b c n hn
  generalize chosenBits I k s = B at hB ⊢
  pointwise [k0_pay4, k0_pay21, k0_pay18, k0_pay19]
  simp only [hB, Pick.sum_pick]

theorem step_last1 : (step I k s).last (ix2 b 1) = I.ody (ix2 b (n b)) := by
  change k0_pay4 (k0_pay21 (chosenBits I k s) I.odx I.ody) (ix2 b 1) = _
  have hB := fun c => bits_at I s k b c n hn
  generalize chosenBits I k s = B at hB ⊢
  pointwise [k0_pay4, k0_pay21, k0_pay18, k0_pay19]
  simp only [hB, Pick.sum_pick]

theorem step_rew : (step I k s).rew (ix2 b 0) = Scalar.select (IntOp.cmpi .sgt (tripWord k) 0#32)
    ((s.rew (ix2 b 0) : EReal) + Ideal.sqrt (((s.last (ix2 b 0) : EReal) - I.odx (ix2 b (n b))) * ((s.last (ix2 b 0) : EReal) - I.odx (ix2 b (n b)))
      + ((s.last (ix2 b 1) : EReal) - I.ody (ix2 b (n b))) * ((s.last (ix2 b 1) : EReal) - I.ody (ix2 b (n b)))))
    (s.rew (ix2 b 0)) := by
  change k0_pay20 (tripWord k) (chosenBits I k s) I.odx I.ody s.last s.rew s.rew (ix2 b 0) = _
  have hB := fun c => bits_at I s k b c n hn
  generalize chosenBits I k s = B at hB ⊢
  generalize tripWord k = w
  pointwise [k0_pay20, k0_pay18, k0_pay19]
  simp only [hB, Pick.sum_pick]
  rfl

theorem emb_at : k0_pay5 (chosen I k s) I.ccT (ix2 b e) = I.ccT (ix3 (n b) b e) := by
  have hC := hn
  generalize chosen I k s = C at hC ⊢
  pointwise [k0_pay5]
  simp only [hC, Pick.sum_pick]

theorem first_at : k0_pay6 (tripWord k) (chosen I k s) I.ccT s.inith (ix2 b e)
    = Scalar.select (IntOp.cmpi .eq (tripWord k) 0#32) (I.ccT (ix3 (n b) b e)) (s.inith (ix2 b e)) := by
  have h := emb_at I s k b e n hn
  unfold k0_pay6
  generalize k0_pay5 (chosen I k s) I.ccT = E at h ⊢
  generalize tripWord k = w
  pointwise
  rw [h]
  rfl

theorem step_inith : (step I k s).inith (ix2 b e)
    = Scalar.select (IntOp.cmpi .eq (tripWord k) 0#32) (I.ccT (ix3 (n b) b e)) (s.inith (ix2 b e)) := by
  rw [← first_at I s k b e n hn]
  change k0_pay7 (tripWord k) (chosen I k s) I.ccT s.inith (ix2 b e) = _
  unfold k0_pay7
  generalize k0_pay6 (tripWord k) (chosen I k s) I.ccT s.inith = E
  pointwise

theorem step_query : (step I k s).query (ix2 b e) = (hbar I (ix2 b e) : EReal)
    + ((∑ x : Fin 128, ((step I k s).inith (ix2 b x) : EReal) * I.wvT (ix2 ⟨x.val, by omega⟩ e)
      + ∑ x : Fin 128, (I.ccT (ix3 (n b) b x) : EReal) * I.wvT (ix2 ⟨128 + x.val, by omega⟩ e)) + I.bv (ix2 0 e)) := by
  have h1 := fun x => emb_at I s k b x n hn
  have h2 := fun x => (first_at I s k b x n hn).trans (step_inith I s k b x n hn).symm
  change k0_pay8 (hbar I) (tripWord k) (chosen I k s) I.ccT s.inith I.wvT I.bv (ix2 b e) = _
  unfold k0_pay8
  generalize hbar I = H
  generalize (step I k s).inith = J at h2 ⊢
  generalize k0_pay6 (tripWord k) (chosen I k s) I.ccT s.inith = E at h2 ⊢
  generalize k0_pay5 (chosen I k s) I.ccT = D at h1 ⊢
  pointwise
  simp only [← h1, ← h2]

end Chosen

/-- The kernel makes fifty trips. -/
theorem trips_eq : k0_t1_loop.trips = 50 := by decide

/-- A trip's word is its number. -/
theorem tripWord_eq (k : Fin k0_t1_loop.trips) : tripWord k = BitVec.ofNat 32 k.val := by
  revert k; decide

/-- A trip's noise is its slice of the noise array. -/
theorem noise_at (k : Fin k0_t1_loop.trips) (b : Fin 128) (c : Fin 50) : noise I k (ix2 b c) = I.g (ix3 (k.cast trips_eq) b c) := by
  pointwise [noise, k0_pay9, k0_off1]
  refine congrArg I.g ?_
  have h : (Scalar.indexCast (Scf.iv 0#32 1#32 k.val)).toNat = k.val := by
    revert k; decide
  simp only [h]
  rfl

end Cert.KernelIdeal.Decode
-- ==== Proof.Trip.lean ====
/-
  One trip of the reference's loop, read buffer by buffer: every buffer of the trip is written once, so each is an
  expression in the others as they stand when the trip's values are all there.
-/
module

public import proofs.«01_k».proof.Proof.RefRun
public import proofs.«01_k».proof.Proof.Pick
public import Idealize.ShloMosaic.Lib.StableHlo.ReadAt
public import Idealize.ShloMosaic.Lib.Pointwise

@[expose] public section

set_option maxRecDepth 16384
set_option maxHeartbeats 4000000

noncomputable section

namespace Cert.ReferenceIdeal.Decode

open Cert.ReferenceIdeal Cert.ReferenceIdeal.Gen Cert.ReferenceIdeal.Value
open Idealize.ShloMosaic Idealize.ShloMosaic.TcCoe Idealize.ShloMosaic.StableHlo
open Idealize.SL.Sem

/-- What each stretch of a trip writes. -/
def bodyWs : List (List (Ref sig .tc)) := [while0Ops0_W, while0Ops0_1_W, while0Ops0_2_W, while0Ops0_3_W, while0Ops0_4_W,
  while0Ops0_5_W, while0Ops0_6_W, while0Ops0_7_W, while0Ops0_8_W, while0Ops0_9_W, while0Ops0_10_W, while0Ops0_11_W,
  while0Ops0_12_W, while0Ops0_13_W, while0Ops0_14_W, while0Ops0_15_W, while0Ops0_16_W, while0Ops0_17_W, while0Ops0_18_W,
  while0Ops0_19_W, while0Ops0_20_W, while0Ops0_21_W, while0Ops0_22_W, while0Ops0_23_W]

/-- A list of stretches each of which writes no more than its list says. -/
def Writes (items : List (List (HloOp τ sig (Elt Ideal)))) (Ws : List (List (Ref sig .tc))) : Prop :=
  List.Forall₂ (fun ops W => ops.Forall fun op => op.writes ⊆ (W.map (Proc.devRef (τ := τ) .tc)).toFinset) items Ws

theorem body_writes : Writes bodyI bodyWs :=
  .cons while0Ops0_writes <| .cons while0Ops0_1_writes <| .cons while0Ops0_2_writes <| .cons while0Ops0_3_writes <|
  .cons while0Ops0_4_writes <| .cons while0Ops0_5_writes <| .cons while0Ops0_6_writes <| .cons while0Ops0_7_writes <|
  .cons while0Ops0_8_writes <| .cons while0Ops0_9_writes <| .cons while0Ops0_10_writes <| .cons while0Ops0_11_writes <|
  .cons while0Ops0_12_writes <| .cons while0Ops0_13_writes <| .cons while0Ops0_14_writes <| .cons while0Ops0_15_writes <|
  .cons while0Ops0_16_writes <| .cons while0Ops0_17_writes <| .cons while0Ops0_18_writes <| .cons while0Ops0_19_writes <|
  .cons while0Ops0_20_writes <| .cons while0Ops0_21_writes <| .cons while0Ops0_22_writes <| .cons while0Ops0_23_writes .nil

/-- Stretches that do not write a buffer leave it. -/
theorem afterL_keeps {items : List (List (HloOp τ sig (Elt Ideal)))} {Ws : List (List (Ref sig .tc))} (h : Writes items Ws)
    (r : Ref sig .tc) (hr : r ∉ Ws.flatten) (V : Valuation τ sig (Elt Ideal)) :
    afterL items V (Proc.devRef .tc r) = V (Proc.devRef .tc r) := by
  induction h generalizing V with
  | nil => rfl
  | cons h1 _ ih =>
    rw [List.flatten_cons, List.mem_append, not_or] at hr
    rw [afterL_cons, ih hr.2, after_of_writes_sub _ _ h1 hr.1]

theorem afterL_append (xs ys : List (List (HloOp τ sig (Elt Ideal)))) (V : Valuation τ sig (Elt Ideal)) :
    afterL (xs ++ ys) V = afterL ys (afterL xs V) := by
  induction xs generalizing V with
  | nil => rfl
  | cons _ _ ih => exact ih _

/-- The contents after the first `n` stretches of a trip entered at `V`. -/
def part (n : Nat) (V : Valuation τ sig (Elt Ideal)) : Valuation τ sig (Elt Ideal) := afterL (bodyI.take n) V

/-- The contents when all the values of a trip entered at `V` are there, before they are carried over. -/
def done (V : Valuation τ sig (Elt Ideal)) : Valuation τ sig (Elt Ideal) := part 23 V

theorem part_succ (n : Nat) (ops : List (HloOp τ sig (Elt Ideal))) (h : bodyI[n]? = some ops) (V : Valuation τ sig (Elt Ideal)) :
    part (n + 1) V = after ops (part n V) := by
  unfold part
  rw [List.take_add_one, h, afterL_append]
  rfl

/-- A buffer that no stretch from the `i`-th on writes already holds then what it holds when the trip is done. -/
theorem part_done (i : Nat) (hi : i ≤ 23) (r : Ref sig .tc) (hr : r ∉ ((bodyWs.take 23).drop i).flatten) (V : Valuation τ sig (Elt Ideal)) :
    part i V (no_index (Proc.devRef .tc r)) = done V (Proc.devRef .tc r) := by
  have e : bodyI (F := Ideal).take 23 = bodyI.take i ++ (bodyI.take 23).drop i := by
    have := List.take_append_drop i (bodyI (F := Ideal).take 23)
    rw [List.take_take, min_eq_left hi] at this
    exact this.symm
  unfold done part
  rw [e, afterL_append, afterL_keeps (List.forall₂_drop _ (List.forall₂_take _ body_writes)) r hr]

/-- A buffer of the trip, as its stretch computes it from the trip's other buffers. -/
theorem done_eq (i : Nat) (hi : i < 23) (r : Ref sig .tc) (hr : r ∉ ((bodyWs.take 23).drop (i + 1)).flatten)
    (ops : List (HloOp τ sig (Elt Ideal))) (h : bodyI[i]? = some ops) (V : Valuation τ sig (Elt Ideal)) :
    done V (Proc.devRef .tc r) = after ops (part i V) (Proc.devRef .tc r) := by
  rw [← part_done (i + 1) hi r hr V, part_succ i ops h]

/-- What a trip does not compute, it finds as it was on entry. -/
theorem done_entry (r : Ref sig .tc) (hr : r ∉ (bodyWs.take 23).flatten) (V : Valuation τ sig (Elt Ideal)) :
    done V (Proc.devRef .tc r) = V (Proc.devRef .tc r) :=
  (part_done 0 (Nat.zero_le _) r hr V).symm

/-- The trip's end: its values carried over. -/
theorem trip_end (V : Valuation τ sig (Elt Ideal)) : afterL bodyI V = after while0Ops0_23 (done V) := rfl

variable (V : Valuation τ sig (Elt Ideal)) (b : Fin 128) (c : Fin 50) (e : Fin 128) (d : Fin 2)

/-! ### What a trip finds -/

/-- The query projection's weights. -/
def wq (x y : Fin 128) : EReal := (V (Proc.devRef .tc main_v28_1) : FVec Ideal S128x128 .f32) (ix2 x y)
def bq (y : Fin 128) : EReal := (V (Proc.devRef .tc main_v28_2) : FVec Ideal S128 .f32) (ix1 y)
def wr (x y : Fin 128) : EReal := (V (Proc.devRef .tc main_v28_3) : FVec Ideal S128x128 .f32) (ix2 x y)
def cc (b : Fin 128) (c : Fin 50) (x : Fin 128) : EReal := (V (Proc.devRef .tc main_v28_4) : FVec Ideal S128x50x128 .f32) (ix3 b c x)
def br (y : Fin 128) : EReal := (V (Proc.devRef .tc main_v28_5) : FVec Ideal S128 .f32) (ix1 y)
def vm (y : Fin 128) : EReal := (V (Proc.devRef .tc main_v28_6) : FVec Ideal S128 .f32) (ix1 y)
def rows (b : Fin 128) : BitVec 32 := (V (Proc.devRef .tc main_v28_8) : IVec S128 32) (ix1 b)
def od (b : Fin 128) (c : Fin 50) (d : Fin 2) : EReal := (V (Proc.devRef .tc main_v28_9) : FVec Ideal S128x50x2 .f32) (ix3 b c d)
def wv (x : Fin 128) (y : Fin 256) : EReal := (V (Proc.devRef .tc main_v28_10) : FVec Ideal S128x256 .f32) (ix2 x y)
def bv (y : Fin 128) : EReal := (V (Proc.devRef .tc main_v28_11) : FVec Ideal S128 .f32) (ix1 y)
def hb (b e : Fin 128) : EReal := (V (Proc.devRef .tc main_v28_12) : FVec Ideal S128x128 .f32) (ix2 b e)
def ctr : BitVec 32 := (V (Proc.devRef .tc main_v28_13) : IVec S_ 32) ix0
def qry (b e : Fin 128) : EReal := (V (Proc.devRef .tc main_v28_14) : FVec Ideal S128x128 .f32) (ix2 b e)
def msk (b : Fin 128) (c : Fin 50) : BitVec 1 := (V (Proc.devRef .tc main_v28_15) : IVec S128x50 1) (ix2 b c)
def fst (b e : Fin 128) : EReal := (V (Proc.devRef .tc main_v28_16) : FVec Ideal S128x128 .f32) (ix2 b e)
def lst (b : Fin 128) (d : Fin 2) : EReal := (V (Proc.devRef .tc main_v28_17) : FVec Ideal S128x2 .f32) (ix2 b d)
def lps (k : Fin 50) (b : Fin 128) : EReal := (V (Proc.devRef .tc main_v28_18) : FVec Ideal S50x128 .f32) (ix2 k b)
def rws (k : Fin 50) (b : Fin 128) : EReal := (V (Proc.devRef .tc main_v28_19) : FVec Ideal S50x128 .f32) (ix2 k b)
def acs (k : Fin 50) (b : Fin 128) : BitVec 32 := (V (Proc.devRef .tc main_v28_20) : IVec S50x128 32) (ix2 k b)

/-! ### What a trip computes -/

def tWord : BitVec 32 := (done V (Proc.devRef .tc main_while0b_v33) : IVec S_ 32) ix0
def tLogit : EReal := (done V (Proc.devRef .tc main_while0b_v51) : FVec Ideal S128x50 .f32) (ix2 b c)
def tProb : EReal := (done V (Proc.devRef .tc main_while0b_v62) : FVec Ideal S128x50 .f32) (ix2 b c)
def tNoise : EReal := (done V (Proc.devRef .tc main_while0b_v68) : FVec Ideal S128x50 .f32) (ix2 b c)
def tScore : EReal := (done V (Proc.devRef .tc main_while0b_v69) : FVec Ideal S128x50 .f32) (ix2 b c)
def tPos : BitVec 32 := (done V (Proc.devRef .tc main_while0b_v70) : IVec S128 32) (ix1 b)
def tLogp : EReal := (done V (Proc.devRef .tc main_while0b_v76) : FVec Ideal S128 .f32) (ix1 b)
def tMask : BitVec 1 := (done V (Proc.devRef .tc main_while0b_v91) : IVec S128x50 1) (ix2 b c)
def tPoint : EReal := (done V (Proc.devRef .tc main_while0b_v95) : FVec Ideal S128x2 .f32) (ix2 b d)
def tDist : EReal := (done V (Proc.devRef .tc main_while0b_v97) : FVec Ideal S128 .f32) (ix1 b)
def tEmb : EReal := (done V (Proc.devRef .tc main_while0b_v101) : FVec Ideal S128x128 .f32) (ix2 b e)
def tFst : EReal := (done V (Proc.devRef .tc main_while0b_v103) : FVec Ideal S128x128 .f32) (ix2 b e)
def tQry : EReal := (done V (Proc.devRef .tc main_while0b_v110) : FVec Ideal S128x128 .f32) (ix2 b e)
def tLps (k : Fin 50) : EReal := (done V (Proc.devRef .tc main_while0b_v111) : FVec Ideal S50x128 .f32) (ix2 k b)

def tRws (k : Fin 50) : EReal := (done V (Proc.devRef .tc main_while0b_v112) : FVec Ideal S50x128 .f32) (ix2 k b)
def tAcs (k : Fin 50) : BitVec 32 := (done V (Proc.devRef .tc main_while0b_v113) : IVec S50x128 32) (ix2 k b)

theorem tScore_eq : tScore V b c = tNoise V b c + Ideal.log (tProb V b c + Ideal.ofBits .f32 730643660#32) := by
  unfold tScore
  rw [done_eq 7 (by decide) _ (by decide) _ rfl]
  after_reads_at
  simp (disch := decide) only [part_done]
  rw [done_eq 5 (by decide) main_while0b_v67 (by decide) _ rfl]
  after_reads_at
  simp (disch := decide) only [part_done]
  rfl

theorem tLogit_eq : tLogit V b c = Scalar.select (msk V b c) (Ideal.ofBits .f32 3435052064#32)
    (∑ x, Ideal.ofBits .f32 1092616192#32 * Ideal.tanh ((∑ y, qry V b y * wq V x y + bq V x)
      + (∑ y, cc V b c y * wr V x y + br V x)) * vm V x) := by
  unfold tLogit
  rw [done_eq 2 (by decide) _ (by decide) _ rfl]
  after_reads_at
  simp (disch := decide) only [part_done]
  rw [done_eq 1 (by decide) main_while0b_v50 (by decide) _ rfl, done_eq 1 (by decide) main_while0b_cst_32 (by decide) _ rfl]
  after_reads_at
  simp (disch := decide) only [part_done, done_entry]
  rfl

/-- The greatest logit of a row, as the softmax takes it. -/
def tTop : EReal := max (Ideal.ofBits .f32 4286578688#32)
  (Finset.fold max (Ideal.ofBits .f32 4286578688#32) (fun x => tLogit V b x) Finset.univ)

theorem tProb_eq : tProb V b c = Ideal.div (Ideal.exp (tLogit V b c - tTop V b)) (∑ x, Ideal.exp (tLogit V b x - tTop V b)) := by
  unfold tProb
  rw [done_eq 3 (by decide) _ (by decide) _ rfl]
  after_reads_at
  simp (disch := decide) only [part_done, done_entry]
  rfl

/-- The chosen position: the first at which the row's score is greatest. -/
theorem tPos_eq : ∃ n : Fin 128 → Fin 50, ∀ b, tPos V b = BitVec.ofNat 32 (n b).val
    ∧ (∀ c, tScore V b c ≤ tScore V b (n b)) ∧ ∀ c, tScore V b c = tScore V b (n b) → n b ≤ c := by
  have h : ∀ b, ∃ n : Fin 50, tPos V b = BitVec.ofNat 32 n.val
    ∧ (∀ c, tScore V b c ≤ tScore V b n) ∧ ∀ c, tScore V b c = tScore V b n → n ≤ c := fun b => by
    obtain ⟨n, h1, h2⟩ := Pick.argmax_row (done V (Proc.devRef .tc main_while0b_v69)) reducesTo_S128x50_S128_d1 h_S_ b
    refine ⟨n, Eq.trans ?_ h1, h2⟩
    unfold tPos
    rw [done_eq 8 (by decide) _ (by decide) _ rfl]
    after_reads_at
    simp (disch := decide) only [part_done]
  exact ⟨fun b => (h b).choose, fun b => (h b).choose_spec⟩

variable (n : Fin 128 → Fin 50) (hn : ∀ b, tPos V b = BitVec.ofNat 32 (n b).val)
include hn

theorem pos_word (b : Fin 128) : (done V (Proc.devRef .tc main_while0b_v70) : IVec S128 32) (ix1 b) = BitVec.ofNat 32 (n b).val := hn b

theorem pos_wrap (b : Fin 128) : Scalar.select (IntOp.cmpi .slt ((done V (Proc.devRef .tc main_while0b_v70) : IVec S128 32) (ix1 b)) 0#32)
    (IntOp.addi ((done V (Proc.devRef .tc main_while0b_v70) : IVec S128 32) (ix1 b)) 50#32)
    ((done V (Proc.devRef .tc main_while0b_v70) : IVec S128 32) (ix1 b)) = BitVec.ofNat 32 (n b).val := by
  rw [pos_word V n hn, Pick.wrap_small]

theorem tLogp_eq : tLogp V b = Ideal.log (tProb V b (n b) + Ideal.ofBits .f32 730643660#32) := by
  unfold tLogp
  rw [done_eq 11 (by decide) _ (by decide) _ rfl]
  after_reads_at
  simp (disch := decide) only [part_done]
  rw [done_eq 10 (by decide) main_while0b_v72 (by decide) _ rfl]
  after_reads_at
  simp (disch := decide) only [part_done]
  rw [done_eq 9 (by decide) main_while0b_v71 (by decide) _ rfl]
  after_reads_at
  simp (disch := decide) only [part_done, pos_word V n hn, Pick.wrap_small, Pick.in_range]
  rw [Pick.gather_word (n := n b)]
  · rfl
  · exact pos_wrap V n hn b

theorem point_at : (done V (Proc.devRef .tc main_while0b_v94) : FVec Ideal S128x1x2 .f32) (ix3 b 0 d) = od V b (n b) d := by
  rw [done_eq 12 (by decide) main_while0b_v94 (by decide) _ rfl]
  after_reads_at
  simp (disch := decide) only [part_done]
  rw [done_eq 11 (by decide) main_while0b_v93 (by decide) _ rfl]
  after_reads_at
  simp (disch := decide) only [part_done, done_entry, pos_word V n hn, Pick.wrap_small, Pick.in_range]
  rw [Pick.gather_pair (n := n b)]
  · rfl
  · exact pos_wrap V n hn b

theorem tPoint_eq : tPoint V b d = od V b (n b) d := by
  unfold tPoint
  rw [done_eq 13 (by decide) _ (by decide) _ rfl]
  after_reads_at
  simp (disch := decide) only [part_done]
  exact point_at V b d n hn

theorem tDist_eq : tDist V b = Ideal.sqrt (∑ x : Fin 2, (lst V b x - od V b (n b) x) * (lst V b x - od V b (n b) x)) := by
  unfold tDist
  rw [done_eq 14 (by decide) _ (by decide) _ rfl]
  after_reads_at
  simp (disch := decide) only [part_done]
  rw [done_eq 13 (by decide) main_while0b_v96 (by decide) _ rfl]
  after_reads_at
  simp (disch := decide) only [part_done, done_entry]
  simp only [point_at V b _ n hn]
  rfl

theorem tEmb_eq : tEmb V b e = cc V b (n b) e := by
  unfold tEmb
  rw [done_eq 17 (by decide) _ (by decide) _ rfl]
  after_reads_at
  simp (disch := decide) only [part_done]
  rw [done_eq 16 (by decide) main_while0b_v100 (by decide) _ rfl]
  after_reads_at
  simp (disch := decide) only [part_done]
  rw [done_eq 15 (by decide) main_while0b_v99 (by decide) _ rfl]
  after_reads_at
  simp (disch := decide) only [part_done, done_entry, pos_word V n hn, Pick.wrap_small, Pick.in_range]
  rw [Pick.gather_emb (n := n b)]
  · rfl
  · exact pos_wrap V n hn b

theorem tMask_eq (hr : ∀ b, rows V b = BitVec.ofNat 32 b.val) : tMask V b c = if c = n b then 1#1 else msk V b c := by
  unfold tMask
  rw [done_eq 11 (by decide) _ (by decide) _ rfl]
  after_reads_at
  simp (disch := decide) only [part_done, done_entry]
  refine Pick.scatter_rows _ _ _ (1#1) (fun _ => rfl) n (fun b => ?_) (fun b => ?_) b c
  · pointwise
    after_reads_at
    simp (disch := decide) only [part_done, done_entry]
    exact (congrArg (fun w => Scalar.select (IntOp.cmpi .slt w 0#32) (IntOp.addi w 128#32) w) (hr b)).trans (Pick.wrap_row b)
  · pointwise
    after_reads_at
    simp (disch := decide) only [part_done, done_entry]
    exact (congrArg (fun w => Scalar.select (IntOp.cmpi .slt w 0#32) (IntOp.addi w 50#32) w) (hn b)).trans (Pick.wrap_small (n b))

omit hn

theorem tFst_eq : tFst V b e = Scalar.select (IntOp.cmpi .eq (tWord V) 0#32) (tEmb V b e) (fst V b e) := by
  unfold tFst
  rw [done_eq 18 (by decide) _ (by decide) _ rfl]
  after_reads_at
  simp (disch := decide) only [part_done]
  rw [done_eq 17 (by decide) main_while0b_v102 (by decide) _ rfl]
  after_reads_at
  simp (disch := decide) only [part_done, done_entry]
  rfl

theorem tQry_eq : tQry V b e = hb V b e + (∑ x : Fin 128, tFst V b x * wv V e ⟨x.val, by omega⟩
    + ∑ x : Fin 128, tEmb V b x * wv V e ⟨128 + x.val, by omega⟩ + bv V e) := by
  unfold tQry
  rw [done_eq 19 (by decide) _ (by decide) _ rfl]
  after_reads_at
  simp (disch := decide) only [part_done, done_entry]
  after_reads_simp
  simp (disch := decide) only [part_done, done_entry]
  rfl

/-- The step's number, as the loop reads it off its list of numbers. -/
theorem tWord_eq (k : Fin 50) (hk : ctr V = BitVec.ofNat 32 k.val) :
    tWord V = (V (Proc.devRef .tc main_v28_0) : IVec S50 32) (ix1 k) := by
  unfold tWord
  rw [done_eq 0 (by decide) _ (by decide) _ rfl]
  after_reads_simp
  simp -implicitDefEqProofs only [StableHlo.TRef.toBuf, StableHlo.TRef.ofBuf, cast_cast, cast_eq]
  clean_types
  refine (congrArg (Host.dynamicSlice S1 (part 0 V (Proc.devRef .tc main_v28_0)) _ sliceFits_S50_S1) (a₂ := ix1 0)
    (funext fun a => by match a with | ⟨0, _⟩ => exact Subsingleton.elim (α := Fin 1) _ _)).trans ?_
  refine (Pick.take_word _ _ _ k ?_).trans rfl
  show ((V (Proc.devRef .tc main_v28_13) : IVec S_ 32) (Shape.Idx.first h_S_)).toInt = _
  rw [show Shape.Idx.first h_S_ = ix0 from Subsingleton.elim _ _]
  exact (congrArg BitVec.toInt hk).trans (Pick.toInt_small k)

theorem tLps_eq (k : Fin 50) (hk : ctr V = BitVec.ofNat 32 k.val) (i : Fin 50) : tLps V b i = if i = k then tLogp V b else lps V i b := by
  unfold tLps
  rw [done_eq 20 (by decide) _ (by decide) _ rfl]
  after_reads_simp
  simp -implicitDefEqProofs only [StableHlo.TRef.toBuf, StableHlo.TRef.ofBuf, cast_cast, cast_eq]
  clean_types
  refine (Pick.put_row _ _ _ _ k ?_ i b).trans ?_
  · show ((upto while0Ops0_20 (part 20 V) 2 (Proc.devRef .tc main_v28_13) : IVec S_ 32) (Shape.Idx.first h_S_)).toInt = _
    after_reads_simp
    simp (disch := decide) only [part_done, done_entry]
    rw [show Shape.Idx.first h_S_ = ix0 from Subsingleton.elim _ _]
    exact (congrArg BitVec.toInt hk).trans (Pick.toInt_small k)
  · pointwise
    simp (disch := decide) only [part_done, done_entry]
    rfl

theorem tRws_eq (k : Fin 50) (hk : ctr V = BitVec.ofNat 32 k.val) (i : Fin 50) : tRws V b i = if i = k then tDist V b else rws V i b := by
  unfold tRws
  rw [done_eq 21 (by decide) _ (by decide) _ rfl]
  after_reads_simp
  simp -implicitDefEqProofs only [StableHlo.TRef.toBuf, StableHlo.TRef.ofBuf, cast_cast, cast_eq]
  clean_types
  refine (Pick.put_row _ _ _ _ k ?_ i b).trans ?_
  · show ((upto while0Ops0_21 (part 21 V) 2 (Proc.devRef .tc main_v28_13) : IVec S_ 32) (Shape.Idx.first h_S_)).toInt = _
    after_reads_simp
    simp (disch := decide) only [part_done, done_entry]
    rw [show Shape.Idx.first h_S_ = ix0 from Subsingleton.elim _ _]
    exact (congrArg BitVec.toInt hk).trans (Pick.toInt_small k)
  · pointwise
    simp (disch := decide) only [part_done, done_entry]
    rfl

theorem tAcs_eq (k : Fin 50) (hk : ctr V = BitVec.ofNat 32 k.val) (i : Fin 50) : tAcs V b i = if i = k then tPos V b else acs V i b := by
  unfold tAcs
  rw [done_eq 22 (by decide) _ (by decide) _ rfl]
  after_reads_simp
  simp -implicitDefEqProofs only [StableHlo.TRef.toBuf, StableHlo.TRef.ofBuf, cast_cast, cast_eq]
  clean_types
  refine (Pick.put_row _ _ _ _ k ?_ i b).trans ?_
  · show ((upto while0Ops0_22 (part 22 V) 2 (Proc.devRef .tc main_v28_13) : IVec S_ 32) (Shape.Idx.first h_S_)).toInt = _
    after_reads_simp
    simp (disch := decide) only [part_done, done_entry]
    rw [show Shape.Idx.first h_S_ = ix0 from Subsingleton.elim _ _]
    exact (congrArg BitVec.toInt hk).trans (Pick.toInt_small k)
  · pointwise
    simp (disch := decide) only [part_done, done_entry]
    rfl

/-! ### What a trip carries over -/

theorem end_ctr : ctr (afterL bodyI V) = IntOp.addi (ctr V) 1#32 := by
  rw [trip_end]
  unfold ctr
  after_reads_at
  simp only [show done V (Proc.devRef .tc main_v28_13) = V (Proc.devRef .tc main_v28_13) from done_entry _ (by decide) V]
  try rfl

theorem end_qry : qry (afterL bodyI V) b e = tQry V b e := by
  rw [trip_end]
  unfold qry
  after_reads_at
  rfl

theorem end_msk : msk (afterL bodyI V) b c = tMask V b c := by
  rw [trip_end]
  unfold msk
  after_reads_at
  rfl

theorem end_fst : fst (afterL bodyI V) b e = tFst V b e := by
  rw [trip_end]
  unfold fst
  after_reads_at
  rfl

theorem end_lst : lst (afterL bodyI V) b d = tPoint V b d := by
  rw [trip_end]
  unfold lst
  after_reads_at
  rfl

theorem end_lps (i : Fin 50) : lps (afterL bodyI V) i b = tLps V b i := by
  rw [trip_end]
  unfold lps
  after_reads_at
  rfl

theorem end_rws (i : Fin 50) : rws (afterL bodyI V) i b = tRws V b i := by
  rw [trip_end]
  unfold rws
  after_reads_at
  rfl

theorem end_acs (i : Fin 50) : acs (afterL bodyI V) i b = tAcs V b i := by
  rw [trip_end]
  unfold acs
  after_reads_at
  rfl

end Cert.ReferenceIdeal.Decode
-- ==== Proof.Noise.lean ====
/-
  The noise: what the kernel's host program draws for all the steps at once is, step by step, what the reference draws
  inside its loop.
-/
module

public import proofs.«01_k».proof.Proof.Gen.ReferenceIdeal.Run
public import proofs.«01_k».proof.Proof.Gen.KernelIdeal.Frame
public import Idealize.ShloMosaic.Lib.StableHlo.ReadAt
public import Idealize.ShloMosaic.Lib.Pointwise

@[expose] public section

set_option maxRecDepth 16384
set_option maxHeartbeats 4000000

noncomputable section

namespace Cert.Noise

open Idealize.ShloMosaic Idealize.ShloMosaic.TcCoe Idealize.ShloMosaic.StableHlo
open Idealize.SL.Sem

/-- The first word of a step's key. -/
theorem key_fst (V : Valuation KernelIdeal.τ KernelIdeal.sig (Elt Ideal)) (W : Valuation ReferenceIdeal.τ ReferenceIdeal.sig (Elt Ideal))
    (k : Fin 50) (A : IVec ⟨1, ![2]⟩ 32) (x : IVec ⟨0, ![]⟩ 32) (X : IVec ⟨1, ![50]⟩ 32) (hx : x = fun _ => X (ix1 k))
    (h0 : W (Proc.devRef .tc ReferenceIdeal.main_v28_7) = A)
    (h1 : W (Proc.devRef .tc ReferenceIdeal.main_while0b_v63) = x)
    (h2 : V (Proc.devRef .tc KernelIdeal.main_v6) = A)
    (h3 : V (Proc.devRef .tc KernelIdeal.main_v8) = X) :
    (after ReferenceIdeal.Gen.while0Ops0_4 W (Proc.devRef .tc ReferenceIdeal.main_while0b_v64) : IVec ReferenceIdeal.S2 32) (ix1 0)
      = (after KernelIdeal.Gen.hostOps0_1 V (Proc.devRef .tc KernelIdeal.main_v9) : IVec KernelIdeal.S50x2 32) (ix2 k 0) := by
  repeat (after_reads_simp <;>
    (try simp -implicitDefEqProofs only [StableHlo.TRef.toBuf, StableHlo.TRef.ofBuf, cast_cast, cast_eq]) <;>
    (try simp only [h0, h1, h2, h3, hx]) <;> clean_types <;> pointwise)

/-- The second word of a step's key. -/
theorem key_snd (V : Valuation KernelIdeal.τ KernelIdeal.sig (Elt Ideal)) (W : Valuation ReferenceIdeal.τ ReferenceIdeal.sig (Elt Ideal))
    (k : Fin 50) (A : IVec ⟨1, ![2]⟩ 32) (x : IVec ⟨0, ![]⟩ 32) (X : IVec ⟨1, ![50]⟩ 32) (hx : x = fun _ => X (ix1 k))
    (h0 : W (Proc.devRef .tc ReferenceIdeal.main_v28_7) = A)
    (h1 : W (Proc.devRef .tc ReferenceIdeal.main_while0b_v63) = x)
    (h2 : V (Proc.devRef .tc KernelIdeal.main_v6) = A)
    (h3 : V (Proc.devRef .tc KernelIdeal.main_v8) = X) :
    (after ReferenceIdeal.Gen.while0Ops0_4 W (Proc.devRef .tc ReferenceIdeal.main_while0b_v64) : IVec ReferenceIdeal.S2 32) (ix1 1)
      = (after KernelIdeal.Gen.hostOps0_1 V (Proc.devRef .tc KernelIdeal.main_v9) : IVec KernelIdeal.S50x2 32) (ix2 k 1) := by
  repeat (after_reads_simp <;>
    (try simp -implicitDefEqProofs only [StableHlo.TRef.toBuf, StableHlo.TRef.ofBuf, cast_cast, cast_eq]) <;>
    (try simp only [h0, h1, h2, h3, hx]) <;> clean_types <;> pointwise)

/-- A step's draws from its key. -/
theorem draw (V : Valuation KernelIdeal.τ KernelIdeal.sig (Elt Ideal)) (W : Valuation ReferenceIdeal.τ ReferenceIdeal.sig (Elt Ideal))
    (k : Fin 50) (K : IVec ⟨2, ![50, 2]⟩ 32) (x : IVec ⟨1, ![2]⟩ 32) (hx : x = fun j => K (ix2 k (j 0)))
    (h0 : W (Proc.devRef .tc ReferenceIdeal.main_while0b_v64) = x)
    (h2 : V (Proc.devRef .tc KernelIdeal.main_v9) = K) (b : Fin 128) (c : Fin 50) :
    (after ReferenceIdeal.Gen.while0Ops0_6 W (Proc.devRef .tc ReferenceIdeal.main_while0b_v68) : FVec Ideal ReferenceIdeal.S128x50 .f32) (ix2 b c)
      = (after KernelIdeal.Gen.hostOps0_2 V (Proc.devRef .tc KernelIdeal.main_v10) : FVec Ideal KernelIdeal.S50x128x50 .f32) (ix3 k b c) := by
  repeat (after_reads_simp <;>
    (try simp -implicitDefEqProofs only [StableHlo.TRef.toBuf, StableHlo.TRef.ofBuf, cast_cast, cast_eq]) <;>
    (try simp only [h0, h2, hx]) <;> clean_types <;> pointwise)

end Cert.Noise
-- ==== Proof.Rel.lean ====
/-
  The two loops side by side: what holds between the kernel's state and the reference's carried buffers before a trip
  holds again after it.
-/
module

public import proofs.«01_k».proof.Proof.KStep
public import proofs.«01_k».proof.Proof.Trip
public import proofs.«01_k».proof.Proof.Noise

@[expose] public section

set_option maxRecDepth 16384
set_option maxHeartbeats 4000000

noncomputable section

namespace Cert.Rel

open Idealize.ShloMosaic Idealize.ShloMosaic.TcCoe Idealize.ShloMosaic.StableHlo
open Cert.KernelIdeal.Decode (Ins St hbar step logits rowMax probs score chosen)
open Cert.ReferenceIdeal.Decode

/-- The reference's contents. -/
abbrev RVal := Valuation ReferenceIdeal.τ ReferenceIdeal.sig (Elt Ideal)

/-- The arrays that both loops only read. -/
structure Same (I : Ins Ideal) (A : IVec ⟨1, ![2]⟩ 32) (V : RVal) : Prop where
  xs : ∀ k : Fin 50, (V (Proc.devRef .tc ReferenceIdeal.main_v28_0) : IVec ⟨1, ![50]⟩ 32) (ix1 k) = BitVec.ofNat 32 k.val
  wq : ∀ x y, I.wqT (ix2 y x) = wq V x y
  bq : ∀ x, I.bq (ix2 0 x) = bq V x
  wr : ∀ x y, I.wrT (ix2 y x) = wr V x y
  cc : ∀ b c x, I.ccT (ix3 c b x) = cc V b c x
  br : ∀ x, I.br (ix2 0 x) = br V x
  vm : ∀ x c, I.vm (ix2 x c) = vm V x
  key : V (Proc.devRef .tc ReferenceIdeal.main_v28_7) = A
  rows : ∀ b, rows V b = BitVec.ofNat 32 b.val
  odx : ∀ b c, I.odx (ix2 b c) = od V b c 0
  ody : ∀ b c, I.ody (ix2 b c) = od V b c 1
  wv : ∀ x e, I.wvT (ix2 x e) = wv V e x
  bv : ∀ x, I.bv (ix2 0 x) = bv V x
  hb : ∀ b e, hbar I (ix2 b e) = hb V b e

/-- The state of the kernel before trip `k`, in the reference's terms. -/
structure Rel (s : St Ideal) (k : Nat) (V : RVal) : Prop where
  ctr : ctr V = BitVec.ofNat 32 k
  qry : ∀ b e, s.query (ix2 b e) = qry V b e
  msk : ∀ b c, s.mask (ix2 b c) = if msk V b c = 1#1 then (1 : EReal) else 0
  fst : ∀ b e, s.inith (ix2 b e) = fst V b e
  lst : ∀ b d, s.last (ix2 b d) = lst V b d
  logp : ∀ b, s.logp (ix2 b 0) = ∑ i : Fin 50, if i.val < k then lps V i b else 0
  rew : ∀ b, s.rew (ix2 b 0) = ∑ i : Fin 50, if 1 ≤ i.val ∧ i.val < k then rws V i b else 0
  act : ∀ b (c : Fin 50), c.val < k → s.act (ix2 b c) = acs V c b

/-- Contents that agree on the arrays read only are as good. -/
theorem Same.of_eq {I : Ins Ideal} {A : IVec ⟨1, ![2]⟩ 32} {V V' : RVal} (h : Same I A V)
    (e : ∀ r : Ref ReferenceIdeal.sig .tc, r ∈ [ReferenceIdeal.main_v28_0, ReferenceIdeal.main_v28_1, ReferenceIdeal.main_v28_2, ReferenceIdeal.main_v28_3,
      ReferenceIdeal.main_v28_4, ReferenceIdeal.main_v28_5, ReferenceIdeal.main_v28_6, ReferenceIdeal.main_v28_7, ReferenceIdeal.main_v28_8,
      ReferenceIdeal.main_v28_9, ReferenceIdeal.main_v28_10, ReferenceIdeal.main_v28_11, ReferenceIdeal.main_v28_12] →
      V' (Proc.devRef .tc r) = V (Proc.devRef .tc r)) : Same I A V' where
  xs k := (congrFun (e ReferenceIdeal.main_v28_0 (by decide)) _).trans (h.xs k)
  wq x y := (h.wq x y).trans (congrFun (e ReferenceIdeal.main_v28_1 (by decide)) _).symm
  bq x := (h.bq x).trans (congrFun (e ReferenceIdeal.main_v28_2 (by decide)) _).symm
  wr x y := (h.wr x y).trans (congrFun (e ReferenceIdeal.main_v28_3 (by decide)) _).symm
  cc b c x := (h.cc b c x).trans (congrFun (e ReferenceIdeal.main_v28_4 (by decide)) _).symm
  br x := (h.br x).trans (congrFun (e ReferenceIdeal.main_v28_5 (by decide)) _).symm
  vm x c := (h.vm x c).trans (congrFun (e ReferenceIdeal.main_v28_6 (by decide)) _).symm
  key := (e ReferenceIdeal.main_v28_7 (by decide)).trans h.key
  rows b := (congrFun (e ReferenceIdeal.main_v28_8 (by decide)) _).trans (h.rows b)
  odx b c := (h.odx b c).trans (congrFun (e ReferenceIdeal.main_v28_9 (by decide)) _).symm
  ody b c := (h.ody b c).trans (congrFun (e ReferenceIdeal.main_v28_9 (by decide)) _).symm
  wv x y := (h.wv x y).trans (congrFun (e ReferenceIdeal.main_v28_10 (by decide)) _).symm
  bv x := (h.bv x).trans (congrFun (e ReferenceIdeal.main_v28_11 (by decide)) _).symm
  hb b x := (h.hb b x).trans (congrFun (e ReferenceIdeal.main_v28_12 (by decide)) _).symm

/-- Contents that agree on the carried buffers are as good. -/
theorem rel_of_eq {s : St Ideal} {k : Nat} {V V' : RVal} (h : Rel s k V)
    (e : ∀ r : Ref ReferenceIdeal.sig .tc, r ∈ [ReferenceIdeal.main_v28_13, ReferenceIdeal.main_v28_14, ReferenceIdeal.main_v28_15, ReferenceIdeal.main_v28_16,
      ReferenceIdeal.main_v28_17, ReferenceIdeal.main_v28_18, ReferenceIdeal.main_v28_19, ReferenceIdeal.main_v28_20] →
      V' (Proc.devRef .tc r) = V (Proc.devRef .tc r)) : Rel s k V' := by
  have e0 : ctr V' = ctr V := congrFun (e ReferenceIdeal.main_v28_13 (by decide)) _
  have e1 : qry V' = qry V := by funext b x; exact congrFun (e ReferenceIdeal.main_v28_14 (by decide)) _
  have e2 : msk V' = msk V := by funext b x; exact congrFun (e ReferenceIdeal.main_v28_15 (by decide)) _
  have e3 : fst V' = fst V := by funext b x; exact congrFun (e ReferenceIdeal.main_v28_16 (by decide)) _
  have e4 : lst V' = lst V := by funext b x; exact congrFun (e ReferenceIdeal.main_v28_17 (by decide)) _
  have e5 : lps V' = lps V := by funext b x; exact congrFun (e ReferenceIdeal.main_v28_18 (by decide)) _
  have e6 : rws V' = rws V := by funext b x; exact congrFun (e ReferenceIdeal.main_v28_19 (by decide)) _
  have e7 : acs V' = acs V := by funext b x; exact congrFun (e ReferenceIdeal.main_v28_20 (by decide)) _
  obtain ⟨h0, h1, h2, h3, h4, h5, h6, h7⟩ := h
  exact ⟨e0 ▸ h0, e1 ▸ h1, e2 ▸ h2, e3 ▸ h3, e4 ▸ h4, e5 ▸ h5, e6 ▸ h6, e7 ▸ h7⟩

/-- A sum over the rows written so far, after one more row is written. -/
theorem sum_put (p q : Fin 50 → Prop) [DecidablePred p] [DecidablePred q] (k : Fin 50) (hq : ∀ i, q i ↔ p i ∨ i = k) (hp : ¬ p k)
    (f : Fin 50 → EReal) (v : EReal) :
    (∑ i, if q i then (if i = k then v else f i) else 0) = (∑ i, if p i then f i else 0) + v := by
  have hv : v = ∑ i : Fin 50, if i = k then v else 0 := by simp
  refine Eq.trans ?_ (congrArg _ hv.symm)
  rw [← Finset.sum_add_distrib]
  refine Finset.sum_congr rfl fun i _ => ?_
  by_cases e : i = k
  · subst e
    rw [if_pos ((hq i).2 (.inr rfl)), if_pos rfl, if_neg hp, zero_add, if_pos rfl]
  · by_cases h : p i
    · rw [if_pos ((hq i).2 (.inl h)), if_neg e, if_pos h, if_neg e, add_zero]
    · rw [if_neg fun q => ((hq i).1 q).elim h e, if_neg h, if_neg e, add_zero]

section Trip

variable {I : Ins Ideal} {A : IVec ⟨1, ![2]⟩ 32} {V : RVal} {s : St Ideal} (k : Fin KernelIdeal.k0_t1_loop.trips)
  (hS : Same I A V) (hR : Rel s k.val V)
  (hN : ∀ b c, tNoise V b c = I.g (ix3 (k.cast KernelIdeal.Decode.trips_eq) b c))
include hS hR

/-- The masked logits agree. -/
theorem logits_eq (b : Fin 128) (c : Fin 50) : logits I s (ix2 b c) = tLogit V b c := by
  rw [KernelIdeal.Decode.logits_at I s b c (vm V) hS.vm, tLogit_eq, hR.msk]
  simp only [hR.qry, hS.wq, hS.bq, hS.cc, hS.wr, hS.br]
  rcases BitVec.eq_zero_or_eq_one (msk V b c) with h | h
  · rw [h, if_neg (show ¬ (0#1 = 1#1) by decide), if_neg (lt_irrefl _)]; rfl
  · rw [h, if_pos rfl, if_pos zero_lt_one]; rfl

/-- Their row maxima agree. -/
theorem rowMax_eq (b : Fin 128) : rowMax I s (ix1 b) = tTop V b := by
  rw [KernelIdeal.Decode.rowMax_at]
  unfold tTop
  simp only [logits_eq k hS hR, Pick.ninf]
  rw [max_eq_right bot_le]

/-- The probabilities agree. -/
theorem probs_eq (b : Fin 128) (c : Fin 50) : probs I s (ix2 b c) = tProb V b c := by
  rw [KernelIdeal.Decode.probs_at, tProb_eq]
  simp only [logits_eq k hS hR, rowMax_eq k hS hR]

include hN

/-- The perturbed scores agree. -/
theorem score_eq (b : Fin 128) (c : Fin 50) : score I s k b c = tScore V b c := by
  unfold score
  rw [tScore_eq, probs_eq k hS hR, KernelIdeal.Decode.noise_at, hN, add_comm]

/-- The kernel chooses the least position of the greatest score. -/
theorem chosen_eq (b : Fin 128) (n : Fin 50) (h1 : ∀ c, tScore V b c ≤ tScore V b n) (h2 : ∀ c, tScore V b c = tScore V b n → n ≤ c) :
    chosen I k s (ix2 b 0) = BitVec.ofNat 32 n.val := by
  rw [KernelIdeal.Decode.chosen_at]
  simp only [score_eq k hS hR hN]
  exact Pick.least_of_max _ n h1 h2

/-- One trip of both loops. -/
theorem trip : Rel (step I k s) (k.val + 1) (afterL ReferenceIdeal.Value.bodyI V) := by
  obtain ⟨n, hn⟩ := tPos_eq V
  have hc : ∀ b, chosen I k s (ix2 b 0) = BitVec.ofNat 32 (n b).val := fun b => chosen_eq k hS hR hN b _ (hn b).2.1 (hn b).2.2
  have hp := fun b => (hn b).1
  have hk50 : k.val < 50 := k.isLt.trans_eq KernelIdeal.Decode.trips_eq
  have hctr : ctr V = BitVec.ofNat 32 (k.cast KernelIdeal.Decode.trips_eq).val := hR.ctr
  have hw : tWord V = BitVec.ofNat 32 k.val := (tWord_eq V _ hctr).trans (hS.xs _)
  have hfst : ∀ b e, (step I k s).inith (ix2 b e) = tFst V b e := fun b e => by
    rw [KernelIdeal.Decode.step_inith I s k b e n hc, tFst_eq, tEmb_eq V b e n hp, hw, KernelIdeal.Decode.tripWord_eq, hS.cc, hR.fst]
  constructor
  · rw [end_ctr, hR.ctr]
    show BitVec.ofNat 32 k.val + 1#32 = BitVec.ofNat 32 (k.val + 1)
    rw [BitVec.ofNat_add]
  · intro b e
    rw [KernelIdeal.Decode.step_query I s k b e n hc, end_qry, tQry_eq]
    simp only [hfst, hS.hb, hS.wv, hS.bv, hS.cc, tEmb_eq V b _ n hp]
  · intro b c
    rw [KernelIdeal.Decode.step_mask I s k b c n hc, end_msk, tMask_eq V b c n hp hS.rows]
    split
    · simp
    · exact hR.msk b c
  · intro b e
    rw [hfst, end_fst]
  · intro b d
    rw [end_lst, tPoint_eq V b d n hp]
    match d with
    | ⟨0, _⟩ => exact (KernelIdeal.Decode.step_last0 I s k b n hc).trans (hS.odx b (n b))
    | ⟨1, _⟩ => exact (KernelIdeal.Decode.step_last1 I s k b n hc).trans (hS.ody b (n b))
  · intro b
    rw [KernelIdeal.Decode.step_logp I s k b n hc, hR.logp, probs_eq k hS hR, ← tLogp_eq V b n hp]
    simp only [end_lps, tLps_eq V b _ hctr]
    exact (sum_put (fun i => i.val < k.val) (fun i => i.val < k.val + 1) _ (fun i => by rw [Fin.ext_iff]; simp; omega) (by simp) _ _).symm
  · intro b
    rw [KernelIdeal.Decode.step_rew I s k b n hc, hR.rew, KernelIdeal.Decode.tripWord_eq]
    simp only [end_rws, tRws_eq V b _ hctr, hR.lst, hS.odx, hS.ody]
    have hd := tDist_eq V b n hp
    rw [Fin.sum_univ_two] at hd
    rw [← hd]
    by_cases h0 : k.val = 0
    · have : IntOp.cmpi .sgt (BitVec.ofNat 32 k.val) 0#32 = 0#1 := by rw [h0]; rfl
      rw [this]
      refine Eq.trans (b := ∑ i : Fin 50, if 1 ≤ i.val ∧ i.val < k.val then rws V i b else 0) rfl ?_
      exact Finset.sum_congr (M := EReal) rfl fun i _ => by rw [if_neg (by omega), if_neg (by omega)]
    · have : IntOp.cmpi .sgt (BitVec.ofNat 32 k.val) 0#32 = 1#1 := by
        revert h0; revert hk50; generalize k.val = j; revert j; decide
      rw [this]
      exact (sum_put (fun i => 1 ≤ i.val ∧ i.val < k.val) (fun i => 1 ≤ i.val ∧ i.val < k.val + 1) _
        (fun i => by rw [Fin.ext_iff]; simp; omega) (by simp) _ _).symm
  · intro b c hck
    rw [KernelIdeal.Decode.step_act I s k b c n hc, end_acs, tAcs_eq V b _ hctr, KernelIdeal.Decode.tripWord_eq,
      Pick.cmpi_eq_small (m := 50) (by norm_num) _ _ c.isLt hk50, hp]
    by_cases h : c.val = k.val
    · rw [if_pos h, if_pos (show c = k.cast KernelIdeal.Decode.trips_eq from Fin.ext h)]; rfl
    · rw [if_neg h, if_neg (show ¬ c = k.cast KernelIdeal.Decode.trips_eq from fun e => h (congrArg Fin.val e))]
      exact hR.act b c (by omega)

end Trip

end Cert.Rel
-- ==== Proof.Loop.lean ====
/-
  The two loops from their entry to their end.
-/
module

public import proofs.«01_k».proof.Proof.Rel
public import Idealize.ShloMosaic.Lib.StableHlo.ReadAt

@[expose] public section

set_option maxRecDepth 16384
set_option maxHeartbeats 4000000

noncomputable section

namespace Cert.Rel

open Idealize.ShloMosaic Idealize.ShloMosaic.TcCoe Idealize.ShloMosaic.StableHlo
open Cert.KernelIdeal.Decode (Ins St stAt init)
open Cert.ReferenceIdeal.Decode Cert.ReferenceIdeal.Value
open Cert.ReferenceIdeal.Gen

/-- The kernel's contents. -/
abbrev KVal := Valuation KernelIdeal.τ KernelIdeal.sig (Elt Ideal)

variable (K : KVal) (V : RVal) (k : Fin 50)

/-- The word that a trip folds into its key is its own. -/
theorem fold_word (h : tWord V = (K (Proc.devRef .tc KernelIdeal.main_v8) : IVec ⟨1, ![50]⟩ 32) (ix1 k)) :
    (part 4 V (Proc.devRef .tc ReferenceIdeal.main_while0b_v63) : IVec ⟨0, ![]⟩ 32)
      = fun _ => (K (Proc.devRef .tc KernelIdeal.main_v8) : IVec ⟨1, ![50]⟩ 32) (ix1 k) := by
  rw [part_done 4 (by decide) _ (by decide), done_eq 3 (by decide) _ (by decide) _ rfl]
  funext j
  rw [← h]
  unfold tWord
  after_reads_at
  clean_types
  simp (disch := decide) only [part_done]
  have hj : j = ix0 := by funext x; exact x.elim0
  rw [hj]
  rfl

/-- The noise of a trip is the kernel's noise of that step. -/
theorem noise_trip (h7 : V (Proc.devRef .tc ReferenceIdeal.main_v28_7) = K (Proc.devRef .tc KernelIdeal.main_v6))
    (h : tWord V = (K (Proc.devRef .tc KernelIdeal.main_v8) : IVec ⟨1, ![50]⟩ 32) (ix1 k)) (b : Fin 128) (c : Fin 50) :
    tNoise V b c = (after KernelIdeal.Gen.hostOps0_2 (after KernelIdeal.Gen.hostOps0_1 K) (Proc.devRef .tc KernelIdeal.main_v10)
      : FVec Ideal KernelIdeal.S50x128x50 .f32) (ix3 k b c) := by
  unfold tNoise
  rw [done_eq 6 (by decide) _ (by decide) _ rfl]
  refine Noise.draw (after KernelIdeal.Gen.hostOps0_1 K) (part 6 V) k _ _ ?_ rfl rfl b c
  rw [part_done 6 (by decide) _ (by decide), done_eq 4 (by decide) _ (by decide) _ rfl]
  have e7 : part 4 V (Proc.devRef .tc ReferenceIdeal.main_v28_7) = K (Proc.devRef .tc KernelIdeal.main_v6) :=
    ((part_done 4 (by decide) _ (by decide) V).trans (done_entry _ (by decide) V)).trans h7
  funext j
  obtain ⟨i, rfl⟩ : ∃ i : Fin 2, j = ix1 i := ⟨j 0, by funext x; fin_cases x; rfl⟩
  match i with
  | ⟨0, _⟩ => exact Noise.key_fst K (part 4 V) k _ _ _ (fold_word K V k h) e7 rfl rfl rfl
  | ⟨1, _⟩ => exact Noise.key_snd K (part 4 V) k _ _ _ (fold_word K V k h) e7 rfl rfl rfl

/-- Before every trip the kernel's state is the reference's, if it is at the loops' entry. -/
theorem loop {I : Ins Ideal} (m : (ℓ : Loc ReferenceIdeal.nD ReferenceIdeal.τ ReferenceIdeal.sig) → Buf (Elt Ideal) ℓ) (d : Dev ReferenceIdeal.nD)
    (hS : Same I (K (Proc.devRef .tc KernelIdeal.main_v6)) (entryContents preI m d)) (hR : Rel (init I) 0 (entryContents preI m d))
    (hX : ∀ i : Fin 50, (K (Proc.devRef .tc KernelIdeal.main_v8) : IVec ⟨1, ![50]⟩ 32) (ix1 i) = BitVec.ofNat 32 i.val)
    (hg : ∀ (i : Fin 50) (b : Fin 128) (c : Fin 50), I.g (ix3 i b c)
      = (after KernelIdeal.Gen.hostOps0_2 (after KernelIdeal.Gen.hostOps0_1 K) (Proc.devRef .tc KernelIdeal.main_v10)
        : FVec Ideal KernelIdeal.S50x128x50 .f32) (ix3 i b c)) :
    ∀ n, n ≤ KernelIdeal.k0_t1_loop.trips →
      Same I (K (Proc.devRef .tc KernelIdeal.main_v6)) (atK m n d) ∧ Rel (stAt I n) n (atK m n d)
  | 0, _ => ⟨hS, hR⟩
  | n + 1, h => by
    obtain ⟨s, r⟩ := loop m d hS hR hX hg n (by omega)
    have s' : Same I (K (Proc.devRef .tc KernelIdeal.main_v6)) (after condOps (atK m n d)) :=
      s.of_eq fun b hb => after_of_writes_sub condOps _ condOps_writes (by revert b; decide)
    have r' : Rel (stAt I n) n (after condOps (atK m n d)) :=
      rel_of_eq r fun b hb => after_of_writes_sub condOps _ condOps_writes (by revert b; decide)
    refine ⟨s.of_eq fun b hb => trip_keeps (by revert b; decide) (by revert b; decide) _, ?_⟩
    have hw : tWord (after condOps (atK m n d)) = BitVec.ofNat 32 n :=
      (tWord_eq _ ⟨n, h.trans_eq KernelIdeal.Decode.trips_eq⟩ r'.ctr).trans (s'.xs _)
    have := trip ⟨n, h⟩ s' r' fun b c => (noise_trip K _ ⟨n, h.trans_eq KernelIdeal.Decode.trips_eq⟩ s'.key (hw.trans (hX ⟨n, h.trans_eq KernelIdeal.Decode.trips_eq⟩).symm) b c).trans
      (hg _ b c).symm
    rw [KernelIdeal.Decode.stAt_succ I ⟨n, h⟩]
    exact this

end Cert.Rel
-- ==== Proof.Start.lean ====
/-
  The kernel's state before the first trip.
-/
module

public import proofs.«01_k».proof.Proof.KStep
public import Idealize.ShloMosaic.Lib.Pipeline.ValueKit

@[expose] public section

set_option maxRecDepth 16384

noncomputable section

open Idealize.ShloMosaic Idealize.ShloMosaic.TcCoe

namespace Cert.KernelIdeal.Decode

open Cert.KernelIdeal Cert.KernelIdeal.Gen

variable (I : Ins Ideal)
/-- A sum of fifty, term by term. -/
theorem sum_range50 (f : Fin 50 → EReal) : (∑ i : Fin 50, f i) = ∑ i ∈ Finset.range 50, if h : i < 50 then f ⟨i, h⟩ else 0 := by
  rw [← Fin.sum_univ_eq_sum_range]
  exact Finset.sum_congr rfl fun i _ => by rw [dif_pos i.isLt]

/-- The encoder's mean, projected. -/
theorem hbar_at (b e : Fin 128) : hbar I (ix2 b e) =
  (∑ x : Fin 128, Ideal.div (∑ i : Fin 50, I.ccT (ix3 i b x)) (Ideal.ofBits .f32 1112014848#32) * I.whT (ix2 x e)) + I.bh (ix2 0 e) := by
  pointwise [hbar, k0_pay27, k0_pay26, k0_pay25, k0_pay24, k0_pay23, k0_pay22]
  refine congrArg (· + _) (Finset.sum_congr rfl fun x _ => congrArg (· * _) (congrArg (Ideal.div · _) ?_))
  rw [sum_range50]
  simp only [Finset.sum_range_succ, Finset.sum_range_zero, zero_add]
  rfl

/-- The first query. -/
theorem init_query (b e : Fin 128) : (init I).query (ix2 b e) =
  hbar I (ix2 b e) + ((∑ x : Fin 256, I.initw (ix2 0 x) * I.wvT (ix2 x e)) + I.bv (ix2 0 e)) := by
  pointwise [init, k0_pay29, k0_pay28]

/-! ## The other components -/

theorem init_mask (b : Fin 128) (x : Fin 50) : (init I).mask (ix2 b x) = I.mask0 (ix2 b x) := by
  pointwise [init, k0_pay31]

theorem init_inith (b e : Fin 128) : (init I).inith (ix2 b e) = 0 := by
  pointwise [init, k0_pay32]

theorem init_last (b : Fin 128) (d : Fin 2) : (init I).last (ix2 b d) = 0 := by
  pointwise [init, k0_pay33]
theorem init_logp (b : Fin 128) : (init I).logp (ix2 b 0) = 0 := by
  pointwise [init, k0_pay1]
theorem init_rew (b : Fin 128) : (init I).rew (ix2 b 0) = 0 := by
  pointwise [init, k0_pay2]

/-- A mask bit as a number. -/
theorem bit_at (x : BitVec 1) : (FloatOps.uitofp FTy.f32 x : Ideal .f32) = if x = 1#1 then (1 : EReal) else 0 := by
  rcases BitVec.eq_zero_or_eq_one x with h | h
  · rw [h, if_neg (by decide)]
    simp [FloatOps.uitofp]
  · rw [h, if_pos rfl]
    simp [FloatOps.uitofp]

end Cert.KernelIdeal.Decode
-- ==== Proof.Staged.lean ====
/-
  What the kernel's windows hold, in terms of the argument arrays.
-/
module

public import proofs.«01_k».proof.Proof.Start
public import Idealize.ShloMosaic.Lib.Pipeline.ValueKit
public import Idealize.ShloMosaic.Lib.StableHlo.ReadAt

@[expose] public section

set_option maxRecDepth 16384
set_option maxHeartbeats 4000000

noncomputable section

namespace Cert.KernelIdeal.Decode

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD) (t : Fin cfg0.N)

/-- The contents once the key and the step numbers are there. -/
def keyed : Valuation τ sig (Elt Ideal) := after hostOps0 fun b => m (c, b)

/-- The contents once the noise is drawn. -/
def drawn : Valuation τ sig (Elt Ideal) := after hostOps0_2 (after hostOps0_1 (keyed m c))

/-- The windows' arrays are what the staging leaves. -/
theorem V_eq (r : Ref sig .tc) : V m c r = after hostOps0_3 (drawn m c) (Proc.devRef .tc r) := by
  unfold drawn keyed V V0
  rw [← afterL_eq_after_flatten]
  rfl

/-- The buffers that the staging writes. -/
abbrev stageW : List (Ref sig .tc) := [main_v11, main_v12, main_v13, main_v14, main_v15, main_v16, main_v17, main_v18, main_v19, main_v20, main_v21,
  main_v22, main_v23, main_v24, main_v25, main_v26, main_v27]

/-- The staging writes no other buffer. -/
theorem stage_writes : (hostOps0_3 : List (HloOp τ sig (Elt Ideal))).Forall fun op => op.writes ⊆ (stageW.map (Proc.devRef (τ := τ) .tc)).toFinset :=
  forall_writes_sub_of_map rfl

/-- What the staging does not write, it keeps. -/
theorem drawn_eq (r : Ref sig .tc) (hr : r ∉ stageW) : drawn m c (Proc.devRef .tc r) = V m c r :=
  ((V_eq m c r).trans (after_of_writes_sub hostOps0_3 _ stage_writes hr)).symm

/-- The argument arrays, at their shapes. -/
abbrev arg0 : FVec Ideal S128x50x128 .f32 := m ((c : Thread nD τ).loc main_arg0)
abbrev arg1 : FVec Ideal S128x50x2 .f32 := m ((c : Thread nD τ).loc main_arg1)
abbrev arg2 : IVec S128x50 1 := m ((c : Thread nD τ).loc main_arg2)
abbrev arg3 : FVec Ideal S256 .f32 := m ((c : Thread nD τ).loc main_arg3)
abbrev arg4 : FVec Ideal S128x128 .f32 := m ((c : Thread nD τ).loc main_arg4)
abbrev arg5 : FVec Ideal S128 .f32 := m ((c : Thread nD τ).loc main_arg5)
abbrev arg6 : FVec Ideal S128x256 .f32 := m ((c : Thread nD τ).loc main_arg6)
abbrev arg7 : FVec Ideal S128 .f32 := m ((c : Thread nD τ).loc main_arg7)
abbrev arg8 : FVec Ideal S128x128 .f32 := m ((c : Thread nD τ).loc main_arg8)
abbrev arg9 : FVec Ideal S128 .f32 := m ((c : Thread nD τ).loc main_arg9)
abbrev arg10 : FVec Ideal S128x128 .f32 := m ((c : Thread nD τ).loc main_arg10)
abbrev arg11 : FVec Ideal S128 .f32 := m ((c : Thread nD τ).loc main_arg11)
abbrev arg12 : FVec Ideal S128 .f32 := m ((c : Thread nD τ).loc main_arg12)

/-- The staging finds the argument arrays as launched. -/
theorem drawn_arg0 : drawn m c (Proc.devRef .tc main_arg0) = arg0 m c := (drawn_eq m c _ (by decide)).trans (V_main_arg0 m c)
theorem drawn_arg1 : drawn m c (Proc.devRef .tc main_arg1) = arg1 m c := (drawn_eq m c _ (by decide)).trans (V_main_arg1 m c)
theorem drawn_arg2 : drawn m c (Proc.devRef .tc main_arg2) = arg2 m c := (drawn_eq m c _ (by decide)).trans (V_main_arg2 m c)
theorem drawn_arg3 : drawn m c (Proc.devRef .tc main_arg3) = arg3 m c := (drawn_eq m c _ (by decide)).trans (V_main_arg3 m c)
theorem drawn_arg4 : drawn m c (Proc.devRef .tc main_arg4) = arg4 m c := (drawn_eq m c _ (by decide)).trans (V_main_arg4 m c)
theorem drawn_arg5 : drawn m c (Proc.devRef .tc main_arg5) = arg5 m c := (drawn_eq m c _ (by decide)).trans (V_main_arg5 m c)
theorem drawn_arg6 : drawn m c (Proc.devRef .tc main_arg6) = arg6 m c := (drawn_eq m c _ (by decide)).trans (V_main_arg6 m c)
theorem drawn_arg7 : drawn m c (Proc.devRef .tc main_arg7) = arg7 m c := (drawn_eq m c _ (by decide)).trans (V_main_arg7 m c)
theorem drawn_arg8 : drawn m c (Proc.devRef .tc main_arg8) = arg8 m c := (drawn_eq m c _ (by decide)).trans (V_main_arg8 m c)
theorem drawn_arg9 : drawn m c (Proc.devRef .tc main_arg9) = arg9 m c := (drawn_eq m c _ (by decide)).trans (V_main_arg9 m c)
theorem drawn_arg10 : drawn m c (Proc.devRef .tc main_arg10) = arg10 m c := (drawn_eq m c _ (by decide)).trans (V_main_arg10 m c)
theorem drawn_arg11 : drawn m c (Proc.devRef .tc main_arg11) = arg11 m c := (drawn_eq m c _ (by decide)).trans (V_main_arg11 m c)
theorem drawn_arg12 : drawn m c (Proc.devRef .tc main_arg12) = arg12 m c := (drawn_eq m c _ (by decide)).trans (V_main_arg12 m c)

/-- Every window takes its whole array. -/
theorem idx : ∀ t : Fin cfg0.N, win0_0.index t = ![0, 0, 0] ∧ win0_1.index t = ![0, 0] ∧ win0_2.index t = ![0, 0] ∧ win0_3.index t = ![0, 0] ∧ win0_4.index t = ![0, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

/-! ## Each window's block is its whole array -/

theorem blk0 : iblk m c 0 t = V m c main_v11 := by blk_ext! [iblk, idx t]
theorem blk1 : iblk m c 1 t = V m c main_v13 := by blk_ext! [iblk, idx t]
theorem blk2 : iblk m c 2 t = V m c main_v15 := by blk_ext! [iblk, idx t]
theorem blk3 : iblk m c 3 t = V m c main_v16 := by blk_ext! [iblk, idx t]
theorem blk4 : iblk m c 4 t = V m c main_v10 := by blk_ext! [iblk, idx t]
theorem blk5 : iblk m c 5 t = V m c main_v17 := by blk_ext! [iblk, idx t]
theorem blk6 : iblk m c 6 t = V m c main_v18 := by blk_ext! [iblk, idx t]
theorem blk7 : iblk m c 7 t = V m c main_v19 := by blk_ext! [iblk, idx t]
theorem blk8 : iblk m c 8 t = V m c main_v20 := by blk_ext! [iblk, idx t]
theorem blk9 : iblk m c 9 t = V m c main_v21 := by blk_ext! [iblk, idx t]
theorem blk10 : iblk m c 10 t = V m c main_v22 := by blk_ext! [iblk, idx t]
theorem blk11 : iblk m c 11 t = V m c main_v23 := by blk_ext! [iblk, idx t]
theorem blk12 : iblk m c 12 t = V m c main_v24 := by blk_ext! [iblk, idx t]
theorem blk13 : iblk m c 13 t = V m c main_v25 := by blk_ext! [iblk, idx t]
theorem blk14 : iblk m c 14 t = V m c main_v27 := by blk_ext! [iblk, idx t]

/-! ## Each window's elements, as elements of the argument arrays -/

theorem ccT_at (x : Fin 50) (b y : Fin 128) : (insOf m c t).ccT (ix3 x b y) = arg0 m c (ix3 b x y) := by
  show (iblk m c 0 t : FVec Ideal S50x128x128 .f32) (ix3 x b y) = _
  rw [blk0, V_eq]
  after_reads_at
  clean_types
  pointwise
  rw [drawn_arg0]

theorem odx_at (b : Fin 128) (x : Fin 50) : (insOf m c t).odx (ix2 b x) = arg1 m c (ix3 b x 0) := by
  show (iblk m c 1 t : FVec Ideal S128x50 .f32) (ix2 b x) = _
  rw [blk1, V_eq]
  after_reads_at
  clean_types
  pointwise
  rw [drawn_arg1]

theorem ody_at (b : Fin 128) (x : Fin 50) : (insOf m c t).ody (ix2 b x) = arg1 m c (ix3 b x 1) := by
  show (iblk m c 2 t : FVec Ideal S128x50 .f32) (ix2 b x) = _
  rw [blk2, V_eq]
  after_reads_at
  clean_types
  pointwise
  rw [drawn_arg1]

theorem mask0_at (b : Fin 128) (x : Fin 50) : (insOf m c t).mask0 (ix2 b x) = if arg2 m c (ix2 b x) = 1#1 then 1 else 0 := by
  show (iblk m c 3 t : FVec Ideal S128x50 .f32) (ix2 b x) = _
  rw [blk3, V_eq]
  after_reads_at
  clean_types
  pointwise
  rw [drawn_arg2]
  exact bit_at _

theorem g_at (k : Fin 50) (b : Fin 128) (x : Fin 50) : (insOf m c t).g (ix3 k b x) = (drawn m c (Proc.devRef .tc main_v10) : FVec Ideal S50x128x50 .f32) (ix3 k b x) := by
  show (iblk m c 4 t : FVec Ideal S50x128x50 .f32) (ix3 k b x) = _
  rw [blk4, ← drawn_eq m c _ (by decide)]

theorem initw_at (x : Fin 256) : (insOf m c t).initw (ix2 0 x) = arg3 m c (ix1 x) := by
  show (iblk m c 5 t : FVec Ideal S1x256 .f32) (ix2 0 x) = _
  rw [blk5, V_eq]
  after_reads_at
  clean_types
  pointwise
  rw [drawn_arg3]

theorem whT_at (x y : Fin 128) : (insOf m c t).whT (ix2 x y) = arg4 m c (ix2 y x) := by
  show (iblk m c 6 t : FVec Ideal S128x128 .f32) (ix2 x y) = _
  rw [blk6, V_eq]
  after_reads_at
  clean_types
  pointwise
  rw [drawn_arg4]

theorem bh_at (x : Fin 128) : (insOf m c t).bh (ix2 0 x) = arg5 m c (ix1 x) := by
  show (iblk m c 7 t : FVec Ideal S1x128 .f32) (ix2 0 x) = _
  rw [blk7, V_eq]
  after_reads_at
  clean_types
  pointwise
  rw [drawn_arg5]

theorem wvT_at (x : Fin 256) (y : Fin 128) : (insOf m c t).wvT (ix2 x y) = arg6 m c (ix2 y x) := by
  show (iblk m c 8 t : FVec Ideal S256x128 .f32) (ix2 x y) = _
  rw [blk8, V_eq]
  after_reads_at
  clean_types
  pointwise
  rw [drawn_arg6]

theorem bv_at (x : Fin 128) : (insOf m c t).bv (ix2 0 x) = arg7 m c (ix1 x) := by
  show (iblk m c 9 t : FVec Ideal S1x128 .f32) (ix2 0 x) = _
  rw [blk9, V_eq]
  after_reads_at
  clean_types
  pointwise
  rw [drawn_arg7]

theorem wqT_at (x y : Fin 128) : (insOf m c t).wqT (ix2 x y) = arg8 m c (ix2 y x) := by
  show (iblk m c 10 t : FVec Ideal S128x128 .f32) (ix2 x y) = _
  rw [blk10, V_eq]
  after_reads_at
  clean_types
  pointwise
  rw [drawn_arg8]

theorem bq_at (x : Fin 128) : (insOf m c t).bq (ix2 0 x) = arg9 m c (ix1 x) := by
  show (iblk m c 11 t : FVec Ideal S1x128 .f32) (ix2 0 x) = _
  rw [blk11, V_eq]
  after_reads_at
  clean_types
  pointwise
  rw [drawn_arg9]

theorem wrT_at (x y : Fin 128) : (insOf m c t).wrT (ix2 x y) = arg10 m c (ix2 y x) := by
  show (iblk m c 12 t : FVec Ideal S128x128 .f32) (ix2 x y) = _
  rw [blk12, V_eq]
  after_reads_at
  clean_types
  pointwise
  rw [drawn_arg10]

theorem br_at (x : Fin 128) : (insOf m c t).br (ix2 0 x) = arg11 m c (ix1 x) := by
  show (iblk m c 13 t : FVec Ideal S1x128 .f32) (ix2 0 x) = _
  rw [blk13, V_eq]
  after_reads_at
  clean_types
  pointwise
  rw [drawn_arg11]

theorem vm_at (x : Fin 128) (y : Fin 50) : (insOf m c t).vm (ix2 x y) = arg12 m c (ix1 x) := by
  show (iblk m c 14 t : FVec Ideal S128x50 .f32) (ix2 x y) = _
  rw [blk14, V_eq]
  after_reads_at
  clean_types
  pointwise
  rw [drawn_arg12]

end Cert.KernelIdeal.Decode
-- ==== Proof.Ends.lean ====
/-
  The kernel's results: what the loop's final state becomes in the result arrays.
-/
module

public import proofs.«01_k».proof.Proof.Staged

@[expose] public section

set_option maxRecDepth 16384
set_option maxHeartbeats 4000000

noncomputable section

namespace Cert.KernelIdeal.Decode

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The state the loop leaves at the only grid point. -/
def endSt : St Ideal := finalSt m c t0_0

/-! ## The result arrays after the kernel -/

theorem final_logp : (dats m 0 c).arrAt 15 (cfgs 0).N = (endSt m c).logp := by
  refine (dats m 0 c).arrAt_eq_of_after_last 15 t0_0 (by decide +kernel) _ fun j => ?_
  blk_simp
  rw [after0_15]
  refine congrArg (endSt m c).logp ?_
  blk_ext [idx t0_0]

theorem final_rew : (dats m 0 c).arrAt 16 (cfgs 0).N = (endSt m c).rew := by
  refine (dats m 0 c).arrAt_eq_of_after_last 16 t0_0 (by decide +kernel) _ fun j => ?_
  blk_simp
  rw [after0_16]
  refine congrArg (endSt m c).rew ?_
  blk_ext [idx t0_0]

theorem final_act : (dats m 0 c).arrAt 17 (cfgs 0).N = (endSt m c).act := by
  refine (dats m 0 c).arrAt_eq_of_after_last 17 t0_0 (by decide +kernel) _ fun j => ?_
  blk_simp
  rw [after0_17]
  refine congrArg (endSt m c).act ?_
  blk_ext [idx t0_0]

/-- The contents after the host's last operations. -/
abbrev tail (r : Ref sig .tc) : Buf (Elt Ideal) ((c.tc : Thread nD τ).loc r) :=
  Pipeline.afterTail₀ cfgs (dats m) 0 (V0 m) [hostOps1] c r

/-- The contents when the kernel is done. -/
def left : Valuation τ sig (Elt Ideal) :=
  Pipeline.withArrays (cfgs 0).spec c (V0 m c) fun w => (dats m 0 c).arrAt w (cfgs 0).N

/-- They follow from the kernel's by the last reshapes. -/
theorem tail_eq (r : Ref sig .tc) : tail m c r = after hostOps1 (left m c) (Proc.devRef .tc r) := by
  unfold tail Pipeline.afterTail₀ left
  rw [← afterL_eq_after_flatten]
  rfl

/-- No two windows share an array. -/
theorem spec_inj : Function.Injective (Pipeline.arrRef spec0) := by decide

/-! ## The results -/

theorem left_logp : left m c (Proc.devRef .tc main_v28_0) = (endSt m c).logp :=
  (Pipeline.withArrays_arr spec0 spec_inj c (V0 m c) (fun w => (dats m 0 c).arrAt w (cfgs 0).N) 15).trans (final_logp m c)

theorem left_rew : left m c (Proc.devRef .tc main_v28_1) = (endSt m c).rew :=
  (Pipeline.withArrays_arr spec0 spec_inj c (V0 m c) (fun w => (dats m 0 c).arrAt w (cfgs 0).N) 16).trans (final_rew m c)

theorem out_logp (b : Fin 128) : (tail m c main_v29 : FVec Ideal S128 .f32) (ix1 b) = (endSt m c).logp (ix2 b 0) := by
  rw [tail_eq]
  after_reads_at
  clean_types
  pointwise
  rw [left_logp]

theorem out_rew (b : Fin 128) : (tail m c main_v30 : FVec Ideal S128 .f32) (ix1 b) = (endSt m c).rew (ix2 b 0) := by
  rw [tail_eq]
  after_reads_at
  clean_types
  pointwise
  rw [left_rew]

end Cert.KernelIdeal.Decode
-- ==== Proof.RefEntry.lean ====
/-
  What the reference's loop is entered with, and what its results are, in terms of the argument arrays.
-/
module

public import proofs.«01_k».proof.Proof.Trip
public import Idealize.ShloMosaic.Lib.StableHlo.ReadAt
public import Idealize.ShloMosaic.Lib.Pointwise

@[expose] public section

set_option maxRecDepth 16384
set_option maxHeartbeats 4000000

noncomputable section

namespace Cert.ReferenceIdeal.Decode

open Cert.ReferenceIdeal Cert.ReferenceIdeal.Gen Cert.ReferenceIdeal.Value
open Idealize.ShloMosaic Idealize.ShloMosaic.TcCoe Idealize.ShloMosaic.StableHlo

variable (m : (ℓ : Loc nD τ sig) → Buf (Elt Ideal) ℓ) (c : Dev nD)

/-- The contents at the loop's entry. -/
def entry : Valuation τ sig (Elt Ideal) := entryContents preI m c

/-- The loop is entered after the host's first operations. -/
theorem entry_eq : entry m c = after hostOps0 (fun b => m (c, b)) := rfl

/-- The argument arrays, at their shapes. -/
abbrev arg0 : FVec Ideal S128x50x128 .f32 := m ((c : Thread nD τ).loc main_arg0)
abbrev arg1 : FVec Ideal S128x50x2 .f32 := m ((c : Thread nD τ).loc main_arg1)
abbrev arg2 : IVec S128x50 1 := m ((c : Thread nD τ).loc main_arg2)
abbrev arg3 : FVec Ideal S256 .f32 := m ((c : Thread nD τ).loc main_arg3)
abbrev arg4 : FVec Ideal S128x128 .f32 := m ((c : Thread nD τ).loc main_arg4)
abbrev arg5 : FVec Ideal S128 .f32 := m ((c : Thread nD τ).loc main_arg5)
abbrev arg6 : FVec Ideal S128x256 .f32 := m ((c : Thread nD τ).loc main_arg6)
abbrev arg7 : FVec Ideal S128 .f32 := m ((c : Thread nD τ).loc main_arg7)
abbrev arg8 : FVec Ideal S128x128 .f32 := m ((c : Thread nD τ).loc main_arg8)
abbrev arg9 : FVec Ideal S128 .f32 := m ((c : Thread nD τ).loc main_arg9)
abbrev arg10 : FVec Ideal S128x128 .f32 := m ((c : Thread nD τ).loc main_arg10)
abbrev arg11 : FVec Ideal S128 .f32 := m ((c : Thread nD τ).loc main_arg11)
abbrev arg12 : FVec Ideal S128 .f32 := m ((c : Thread nD τ).loc main_arg12)

/-- The encoder's mean, projected. -/
def hbarAt (b e : Fin 128) : EReal :=
  (∑ x : Fin 128, Ideal.div (∑ i : Fin 50, arg0 m c (ix3 b i x)) (Ideal.ofBits .f32 1112014848#32) * arg4 m c (ix2 e x)) + arg5 m c (ix1 e)

/-! ## The carried buffers at the entry -/

theorem entry_xs (k : Fin 50) : (entry m c (Proc.devRef .tc main_v28_0) : IVec S50 32) (ix1 k) = BitVec.ofNat 32 k.val := by
  rw [entry_eq]
  after_reads_at
  clean_types
  simp only [id]
  pointwise

theorem entry_wq (x y : Fin 128) : wq (entry m c) x y = arg8 m c (ix2 x y) := by
  unfold wq
  rw [entry_eq]
  after_reads_at
  clean_types
  simp only [id]

theorem entry_rows (b : Fin 128) : rows (entry m c) b = BitVec.ofNat 32 b.val := by
  unfold rows
  rw [entry_eq]
  after_reads_at
  clean_types
  simp only [id]
  pointwise

theorem entry_hb (b e : Fin 128) : hb (entry m c) b e = hbarAt m c b e := by
  unfold hb hbarAt
  rw [entry_eq]
  after_reads_at
  clean_types
  simp only [id]
  pointwise

theorem entry_qry (b e : Fin 128) : qry (entry m c) b e
    = hbarAt m c b e + ((∑ x : Fin 256, arg3 m c (ix1 x) * arg6 m c (ix2 e x)) + arg7 m c (ix1 e)) := by
  unfold qry hbarAt
  rw [entry_eq]
  after_reads_at
  clean_types
  simp only [id]
  pointwise

theorem entry_ctr : ctr (entry m c) = 0#32 := by
  unfold ctr
  rw [entry_eq]
  after_reads_at
  clean_types
  simp only [id]
  pointwise

theorem entry_fst (b e : Fin 128) : fst (entry m c) b e = 0 := by
  unfold fst
  rw [entry_eq]
  after_reads_at
  clean_types
  simp only [id]
  pointwise

theorem entry_lst (b : Fin 128) (d : Fin 2) : lst (entry m c) b d = 0 := by
  unfold lst
  rw [entry_eq]
  after_reads_at
  clean_types
  simp only [id]
  pointwise

theorem entry_bq (x : Fin 128) : bq (entry m c) x = arg9 m c (ix1 x) := by
  unfold bq
  rw [entry_eq]
  after_reads_at
  clean_types
  simp only [id]

theorem entry_wr (x y : Fin 128) : wr (entry m c) x y = arg10 m c (ix2 x y) := by
  unfold wr
  rw [entry_eq]
  after_reads_at
  clean_types
  simp only [id]

theorem entry_cc (b : Fin 128) (x : Fin 50) (y : Fin 128) : cc (entry m c) b x y = arg0 m c (ix3 b x y) := by
  unfold cc
  rw [entry_eq]
  after_reads_at
  clean_types
  simp only [id]

theorem entry_br (x : Fin 128) : br (entry m c) x = arg11 m c (ix1 x) := by
  unfold br
  rw [entry_eq]
  after_reads_at
  clean_types
  simp only [id]

theorem entry_vm (x : Fin 128) : vm (entry m c) x = arg12 m c (ix1 x) := by
  unfold vm
  rw [entry_eq]
  after_reads_at
  clean_types
  simp only [id]

theorem entry_od (b : Fin 128) (x : Fin 50) (d : Fin 2) : od (entry m c) b x d = arg1 m c (ix3 b x d) := by
  unfold od
  rw [entry_eq]
  after_reads_at
  clean_types
  simp only [id]

theorem entry_wv (x : Fin 128) (y : Fin 256) : wv (entry m c) x y = arg6 m c (ix2 x y) := by
  unfold wv
  rw [entry_eq]
  after_reads_at
  clean_types
  simp only [id]

theorem entry_bv (x : Fin 128) : bv (entry m c) x = arg7 m c (ix1 x) := by
  unfold bv
  rw [entry_eq]
  after_reads_at
  clean_types
  simp only [id]

theorem entry_msk (b : Fin 128) (x : Fin 50) : msk (entry m c) b x = arg2 m c (ix2 b x) := by
  unfold msk
  rw [entry_eq]
  after_reads_at
  clean_types
  simp only [id]

/-! ## The results, from the buffers that the loop leaves -/

variable (W : Valuation τ sig (Elt Ideal))

/-- The log-probabilities, summed over the steps. -/
theorem out_lps (b : Fin 128) : (after hostOps0_1 W (Proc.devRef .tc main_v29) : FVec Ideal S128 .f32) (ix1 b) = ∑ i : Fin 50, lps W i b := by
  unfold lps
  after_reads_at

/-- The rewards, summed over the steps after the first. -/
theorem out_rws (b : Fin 128) : (after hostOps0_1 W (Proc.devRef .tc main_v31) : FVec Ideal S128 .f32) (ix1 b)
    = ∑ i : Fin 49, rws W ⟨1 + i.val, by omega⟩ b := by
  unfold rws
  after_reads_at

/-- The actions, a row for each batch. -/
theorem out_acs (b : Fin 128) (x : Fin 50) : (after hostOps0_1 W (Proc.devRef .tc main_v32) : IVec S128x50 32) (ix2 b x) = acs W x b := by
  unfold acs
  after_reads_at

/-- The final contents come from the last trip's by the loop's last test and the last operations. -/
theorem final_eq (r : Ref sig .tc) : finalContents condOps preI bodyI postI 50 m c (Proc.devRef .tc r)
    = after hostOps0_1 (after condOps (atK m 50 c)) (Proc.devRef .tc r) := rfl

end Cert.ReferenceIdeal.Decode
-- ==== Proof.Algebraic.lean ====
/-
  The kernel's results are the reference's.
-/
module

public import proofs.«01_k».proof.Defs
public import proofs.«01_k».proof.Proof.Loop
public import proofs.«01_k».proof.Proof.Ends
public import proofs.«01_k».proof.Proof.RefEntry

@[expose] public section

set_option maxRecDepth 16384
set_option maxHeartbeats 4000000

noncomputable section

namespace Cert.Rel

open Idealize.ShloMosaic Idealize.ShloMosaic.TcCoe Idealize.ShloMosaic.StableHlo Idealize.SL.Sem
open Cert.KernelIdeal.Decode (Ins St stAt init insOf keyed drawn endSt tail)
open Cert.ReferenceIdeal.Decode Cert.ReferenceIdeal.Value
open Cert.ReferenceIdeal.Gen

/-- The kernel's memory and the reference's. -/
abbrev KMem := (ℓ : Loc KernelIdeal.nD KernelIdeal.τ KernelIdeal.sig) → Buf (Elt Ideal) ℓ
abbrev RMem := (ℓ : Loc ReferenceIdeal.nD ReferenceIdeal.τ ReferenceIdeal.sig) → Buf (Elt Ideal) ℓ

/-- The same arguments in both memories. -/
structure Args (m : KMem) (m' : RMem) (c : Dev KernelIdeal.nD) : Prop where
  a0 : ReferenceIdeal.Decode.arg0 m' c = KernelIdeal.Decode.arg0 m c
  a1 : ReferenceIdeal.Decode.arg1 m' c = KernelIdeal.Decode.arg1 m c
  a2 : ReferenceIdeal.Decode.arg2 m' c = KernelIdeal.Decode.arg2 m c
  a3 : ReferenceIdeal.Decode.arg3 m' c = KernelIdeal.Decode.arg3 m c
  a4 : ReferenceIdeal.Decode.arg4 m' c = KernelIdeal.Decode.arg4 m c
  a5 : ReferenceIdeal.Decode.arg5 m' c = KernelIdeal.Decode.arg5 m c
  a6 : ReferenceIdeal.Decode.arg6 m' c = KernelIdeal.Decode.arg6 m c
  a7 : ReferenceIdeal.Decode.arg7 m' c = KernelIdeal.Decode.arg7 m c
  a8 : ReferenceIdeal.Decode.arg8 m' c = KernelIdeal.Decode.arg8 m c
  a9 : ReferenceIdeal.Decode.arg9 m' c = KernelIdeal.Decode.arg9 m c
  a10 : ReferenceIdeal.Decode.arg10 m' c = KernelIdeal.Decode.arg10 m c
  a11 : ReferenceIdeal.Decode.arg11 m' c = KernelIdeal.Decode.arg11 m c
  a12 : ReferenceIdeal.Decode.arg12 m' c = KernelIdeal.Decode.arg12 m c

variable {m : KMem} {m' : RMem} {c : Dev KernelIdeal.nD} (h : Args m m' c) (t : Fin KernelIdeal.cfg0.N)

/-- The same key. -/
theorem key_eq : entry m' c (Proc.devRef .tc ReferenceIdeal.main_v28_7) = keyed m c (Proc.devRef .tc KernelIdeal.main_v6) := by
  rw [entry_eq]
  unfold keyed
  after_reads_at
  rfl

/-- The kernel's steps are numbered from zero. -/
theorem steps_at (i : Fin 50) : (keyed m c (Proc.devRef .tc KernelIdeal.main_v8) : IVec ⟨1, ![50]⟩ 32) (ix1 i) = BitVec.ofNat 32 i.val := by
  unfold keyed
  after_reads_at
  clean_types
  simp only [id]
  pointwise

include h

/-- The projected mean agrees. -/
theorem hbar_eq (b e : Fin 128) : KernelIdeal.Decode.hbar (insOf m c t) (ix2 b e) = hbarAt m' c b e := by
  rw [KernelIdeal.Decode.hbar_at]
  unfold hbarAt
  simp only [KernelIdeal.Decode.ccT_at, KernelIdeal.Decode.whT_at, KernelIdeal.Decode.bh_at, h.a0, h.a4, h.a5]

/-- At the entry both loops find the same arrays. -/
theorem same_entry : Same (insOf m c t) (keyed m c (Proc.devRef .tc KernelIdeal.main_v6)) (entry m' c) where
  xs := entry_xs m' c
  wq x y := by rw [KernelIdeal.Decode.wqT_at, entry_wq, h.a8]
  bq x := by rw [KernelIdeal.Decode.bq_at, entry_bq, h.a9]
  wr x y := by rw [KernelIdeal.Decode.wrT_at, entry_wr, h.a10]
  cc b x y := by rw [KernelIdeal.Decode.ccT_at, entry_cc, h.a0]
  br x := by rw [KernelIdeal.Decode.br_at, entry_br, h.a11]
  vm x y := by rw [KernelIdeal.Decode.vm_at, entry_vm, h.a12]
  key := key_eq
  rows := entry_rows m' c
  odx b x := by rw [KernelIdeal.Decode.odx_at, entry_od, h.a1]
  ody b x := by rw [KernelIdeal.Decode.ody_at, entry_od, h.a1]
  wv x e := by rw [KernelIdeal.Decode.wvT_at, entry_wv, h.a6]
  bv x := by rw [KernelIdeal.Decode.bv_at, entry_bv, h.a7]
  hb b e := by rw [hbar_eq h, entry_hb]

/-- At the entry the kernel's state is the reference's. -/
theorem rel_entry : Rel (init (insOf m c t)) 0 (entry m' c) where
  ctr := entry_ctr m' c
  qry b e := by
    rw [KernelIdeal.Decode.init_query, entry_qry, hbar_eq h]
    simp only [KernelIdeal.Decode.initw_at, KernelIdeal.Decode.wvT_at, KernelIdeal.Decode.bv_at, h.a3, h.a6, h.a7]
  msk b x := by rw [KernelIdeal.Decode.init_mask, KernelIdeal.Decode.mask0_at, entry_msk, h.a2]
  fst b e := by rw [KernelIdeal.Decode.init_inith, entry_fst]
  lst b d := by rw [KernelIdeal.Decode.init_last, entry_lst]
  logp b := by simp [KernelIdeal.Decode.init_logp]
  rew b := by simp [KernelIdeal.Decode.init_rew]
  act b x hx := absurd hx (by omega)

/-- When the loops are left the kernel's state is the reference's. -/
theorem rel_end : Rel (endSt m c) 50 (after condOps (atK m' 50 c)) := by
  have := (loop (keyed m c) m' c (same_entry h KernelIdeal.Gen.t0_0) (rel_entry h KernelIdeal.Gen.t0_0) steps_at
    (KernelIdeal.Decode.g_at m c KernelIdeal.Gen.t0_0) _ le_rfl).2
  rw [KernelIdeal.Decode.trips_eq] at this
  have e : endSt m c = stAt (insOf m c KernelIdeal.Gen.t0_0) 50 := by
    show stAt (insOf m c KernelIdeal.Gen.t0_0) KernelIdeal.k0_t1_loop.trips = _
    rw [KernelIdeal.Decode.trips_eq]
  rw [e]
  exact rel_of_eq this fun b hb => after_of_writes_sub condOps _ condOps_writes (by revert b; decide)

/-- The summed log-probabilities agree. -/
theorem logp_eq : finalContents condOps preI bodyI postI 50 m' c (Proc.devRef .tc ReferenceIdeal.main_v29) = tail m c KernelIdeal.main_v29 := by
  rw [final_eq]
  funext j
  obtain ⟨b, rfl⟩ : ∃ b : Fin 128, j = ix1 b := ⟨j 0, by funext x; fin_cases x; rfl⟩
  refine (out_lps _ b).trans (((KernelIdeal.Decode.out_logp m c b).trans ((rel_end h).logp b)).trans ?_).symm
  exact Finset.sum_congr (M := EReal) rfl fun i _ => if_pos i.isLt

/-- The summed rewards agree. -/
theorem rew_eq : finalContents condOps preI bodyI postI 50 m' c (Proc.devRef .tc ReferenceIdeal.main_v31) = tail m c KernelIdeal.main_v30 := by
  rw [final_eq]
  funext j
  obtain ⟨b, rfl⟩ : ∃ b : Fin 128, j = ix1 b := ⟨j 0, by funext x; fin_cases x; rfl⟩
  refine (out_rws _ b).trans (((KernelIdeal.Decode.out_rew m c b).trans ((rel_end h).rew b)).trans ?_).symm
  rw [Fin.sum_univ_succ, if_neg (by simp), zero_add]
  refine Finset.sum_congr (M := EReal) rfl fun i _ => ?_
  rw [if_pos ⟨by simp, i.succ.isLt⟩]
  exact congrArg (fun k => rws _ k b) (Fin.ext (by simp [Nat.add_comm]))

/-- The chosen actions agree. -/
theorem act_eq : finalContents condOps preI bodyI postI 50 m' c (Proc.devRef .tc ReferenceIdeal.main_v32) = (endSt m c).act := by
  rw [final_eq]
  funext j
  obtain ⟨b, x, rfl⟩ : ∃ (b : Fin 128) (x : Fin 50), j = ix2 b x := ⟨j 0, j 1, by funext x; fin_cases x <;> rfl⟩
  exact (out_acs _ b x).trans ((rel_end h).act b x x.isLt).symm

end Cert.Rel

namespace Cert.Proof

open Idealize.ShloMosaic Idealize.ShloMosaic.TcCoe Idealize.SL.Sem

/-- The kernel and the reference end with the same results, each with its arguments unchanged. -/
theorem algebraic : algebraic_KernelIdeal_ReferenceIdeal (hKernelIdeal := Cert.KernelIdeal.Gen.facts) (hReferenceIdeal := Cert.ReferenceIdeal.Gen.facts) := by
  intro m g m' g' _ hargs
  have h : ∀ c, Rel.Args m m' c := fun c => by
    obtain ⟨h0, h1, h2, h3, h4, h5, h6, h7, h8, h9, h10, h11, h12⟩ := hargs c
    exact ⟨h0, h1, h2, h3, h4, h5, h6, h7, h8, h9, h10, h11, h12⟩
  refine ⟨fun c => KernelIdeal.Decode.tail m c KernelIdeal.main_v29, fun c => KernelIdeal.Decode.tail m c KernelIdeal.main_v30,
    fun c => (KernelIdeal.Decode.endSt m c).act, ?_, ?_⟩
  · refine (θ_run _ _ _).mono (fun r hr c => ?_) (θ_run_and (KernelIdeal.Decode.run_main m g) (KernelIdeal.Decode.frame m g))
    obtain ⟨hp, hf⟩ := hr
    exact ⟨(hp c).2 KernelIdeal.main_v29 (Pipeline.mem_restRefs_of KernelIdeal.main_v29 (by decide) (by decide)),
      (hp c).2 KernelIdeal.main_v30 (Pipeline.mem_restRefs_of KernelIdeal.main_v30 (by decide) (by decide)),
      ((hp c).1 17).trans (KernelIdeal.Decode.final_act m c), hf.1 c⟩
  · refine (θ_run _ _ _).mono (fun r hr c => ?_) (θ_run_and (ReferenceIdeal.Decode.run m' g') (ReferenceIdeal.Decode.frame m' g'))
    obtain ⟨hp, hf⟩ := hr
    exact ⟨(hp.1 c ReferenceIdeal.main_v29 (by decide)).trans (Rel.logp_eq (h c)),
      (hp.1 c ReferenceIdeal.main_v31 (by decide)).trans (Rel.rew_eq (h c)),
      (hp.1 c ReferenceIdeal.main_v32 (by decide)).trans (Rel.act_eq (h c)), hf.1 c⟩

end Cert.Proof
-- ==== Proof.lean ====
module

public import proofs.«01_k».proof.Defs
public import proofs.«01_k».proof.Proof.BitsBody
public import proofs.«01_k».proof.Proof.IdealBody
public import proofs.«01_k».proof.Proof.RefRun
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.Kernel.Decode.frame m g, fun m g _ => Cert.KernelIdeal.Decode.frame m g,
    fun m g _ => Cert.ReferenceIdeal.Decode.frame m g, trivial, algebraic⟩

end Cert.Proof

end
